-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_range [hPre_normal_range : Cert.Pre_normal_range.Facts] (m : (ℓ : Loc Cert.KernelIdeal.nD Cert.KernelIdeal.τ Cert.KernelIdeal.sig) → Buf (Elt Ideal) ℓ) : Prop :=
  ∀ c : Dev Cert.KernelIdeal.nD,
    (Cert.Pre_normal_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_range [hPre_normal_range : Cert.Pre_normal_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_normal_range [hKernelIdeal : Cert.KernelIdeal.Facts] [hPre_normal_range : Cert.Pre_normal_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_normal_range [hReferenceIdeal : Cert.ReferenceIdeal.Facts] [hPre_normal_range : Cert.Pre_normal_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_normal_range [hKernelIdeal : Cert.KernelIdeal.Facts] [hReferenceIdeal : Cert.ReferenceIdeal.Facts] [hPre_normal_range : Cert.Pre_normal_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v173) = v1 c
          ∧ r.2.mem ((c.tc : Thread Cert.ReferenceIdeal.nD Cert.ReferenceIdeal.τ).loc Cert.ReferenceIdeal.main_v174) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_normal_range : Cert.Pre_normal_range.Facts),
    quiescent_Kernel (hKernel := hKernel)
    ∧ quiescent_KernelIdeal (hKernelIdeal := hKernelIdeal)
    ∧ quiescent_KernelIdeal_pre_normal_range (hKernelIdeal := hKernelIdeal) (hPre_normal_range := hPre_normal_range)
    ∧ quiescent_ReferenceIdeal (hReferenceIdeal := hReferenceIdeal)
    ∧ quiescent_ReferenceIdeal_pre_normal_range (hReferenceIdeal := hReferenceIdeal) (hPre_normal_range := hPre_normal_range)
    ∧ preserves_Kernel_KernelIdeal
    ∧ algebraic_KernelIdeal_ReferenceIdeal_pre_normal_range (hKernelIdeal := hKernelIdeal) (hReferenceIdeal := hReferenceIdeal) (hPre_normal_range := hPre_normal_range)
-- ==== Pre_normal_range.lean ====
abbrev S1x256x3584 : Shape := ⟨3, ![1, 256, 3584]⟩
abbrev S3584x9472 : Shape := ⟨2, ![3584, 9472]⟩
abbrev S224x18944 : Shape := ⟨2, ![224, 18944]⟩
abbrev S1x256x224x16 : Shape := ⟨4, ![1, 256, 224, 16]⟩
abbrev S_ : Shape := ⟨0, ![]⟩
abbrev S1x256x224 : Shape := ⟨3, ![1, 256, 224]⟩

class Facts : Prop where
  bitsLt_bf16_f32 : FTy.bits .bf16 < FTy.bits .f32
  shapeCasts_S1x256x3584_S1x256x224x16 : S1x256x3584.ShapeCasts S1x256x224x16
  reducesTo_S1x256x224x16_S1x256x224_d3 : S1x256x224x16.ReducesTo [3] S1x256x224
  h_S_ : 0 < S_.numel
  bcast_S_S1x256x224 : S_.BroadcastsInDim S1x256x224 (![] : Fin 0 → Fin S1x256x224.rank)
  reducesTo_S1x256x224_S_d0_1_2 : S1x256x224.ReducesTo [0, 1, 2] S_
  bcast_S_S224x18944 : S_.BroadcastsInDim S224x18944 (![] : Fin 0 → Fin S224x18944.rank)
  reducesTo_S224x18944_S_d0_1 : S224x18944.ReducesTo [0, 1] S_

variable [Facts]

def fn_part1 {F : FTy → Type} [FloatOps F] (main_arg4 : IVec S224x18944 8) (main_v16 : IVec S_ 1) : IVec S_ 1 :=
  let main_c_5 : IVec S_ 8 := constantI S_ 8 130#8
  let main_v17 : IVec S224x18944 8 := broadcastInDim S224x18944 ![] bcast_S_S224x18944 main_c_5
  let main_v18 : IVec S224x18944 1 := cmpi .sge main_arg4 main_v17
  let main_c_6 : IVec S_ 1 := constantI S_ 1 1#1
  let main_v19 : IVec S_ 1 := (fun x v => Host.reduce IntOp.andi x v reducesTo_S224x18944_S_d0_1 h_S_) main_v18 main_c_6
  let main_v20 : IVec S_ 1 := andi main_v16 main_v19
  main_v20

def fn {F : FTy → Type} [FloatOps F] (main_arg0 : FVec F S1x256x3584 .bf16) (main_arg1 : IVec S3584x9472 8) (main_arg2 : IVec S224x18944 8) (main_arg3 : IVec S3584x9472 8) (main_arg4 : IVec S224x18944 8) : IVec S_ 1 :=
  let main_v0 : FVec F S1x256x3584 .f32 := (extf .f32 · bitsLt_bf16_f32) main_arg0
  let main_v1 : FVec F S1x256x224x16 .f32 := shapeCast S1x256x224x16 main_v0 shapeCasts_S1x256x3584_S1x256x224x16
  let main_v2 : FVec F S1x256x224x16 .f32 := Host.absf main_v1
  let main_cst : FVec F S_ .f32 := constant S_ .f32 0xFF800000#32
  let main_v3 : FVec F S1x256x224 .f32 := (fun x v => Host.reduce FloatOps.maximumf x v reducesTo_S1x256x224x16_S1x256x224_d3 h_S_) main_v2 main_cst
  let main_cst_0 : FVec F S_ .f32 := constant S_ .f32 0x00000000#32
  let main_v4 : FVec F S1x256x224 .f32 := broadcastInDim S1x256x224 ![] bcast_S_S1x256x224 main_cst_0
  let main_v5 : IVec S1x256x224 1 := cmpf .oeq main_v3 main_v4
  let main_cst_1 : FVec F S_ .f32 := constant S_ .f32 0x01000000#32
  let main_v6 : FVec F S1x256x224 .f32 := broadcastInDim S1x256x224 ![] bcast_S_S1x256x224 main_cst_1
  let main_v7 : IVec S1x256x224 1 := cmpf .oge main_v3 main_v6
  let main_cst_2 : FVec F S_ .f32 := constant S_ .f32 0x7F800000#32
  let main_v8 : FVec F S1x256x224 .f32 := broadcastInDim S1x256x224 ![] bcast_S_S1x256x224 main_cst_2
  let main_v9 : IVec S1x256x224 1 := cmpf .olt main_v3 main_v8
  let main_v10 : IVec S1x256x224 1 := andi main_v7 main_v9
  let main_v11 : IVec S1x256x224 1 := ori main_v5 main_v10
  let main_c : IVec S_ 1 := constantI S_ 1 1#1
  let main_v12 : IVec S_ 1 := (fun x v => Host.reduce IntOp.andi x v reducesTo_S1x256x224_S_d0_1_2 h_S_) main_v11 main_c
  let main_c_3 : IVec S_ 8 := constantI S_ 8 130#8
  let main_v13 : IVec S224x18944 8 := broadcastInDim S224x18944 ![] bcast_S_S224x18944 main_c_3
  let main_v14 : IVec S224x18944 1 := cmpi .sge main_arg2 main_v13
  let main_c_4 : IVec S_ 1 := constantI S_ 1 1#1
  let main_v15 : IVec S_ 1 := (fun x v => Host.reduce IntOp.andi x v reducesTo_S224x18944_S_d0_1 h_S_) main_v14 main_c_4
  let main_v16 : IVec S_ 1 := andi main_v12 main_v15
  fn_part1 (F := F) main_arg4 main_v16
-- ==== Kernel.lean ====
abbrev S1x256x3584 : Shape := ⟨3, ![1, 256, 3584]⟩
abbrev S3584x9472 : Shape := ⟨2, ![3584, 9472]⟩
abbrev S224x18944 : Shape := ⟨2, ![224, 18944]⟩
abbrev S256x3584 : Shape := ⟨2, ![256, 3584]⟩
abbrev S256x18944 : Shape := ⟨2, ![256, 18944]⟩
abbrev S256x1792 : Shape := ⟨2, ![256, 1792]⟩
abbrev S256x224 : Shape := ⟨2, ![256, 224]⟩
abbrev S3584x256 : Shape := ⟨2, ![3584, 256]⟩
abbrev S224x256 : Shape := ⟨2, ![224, 256]⟩
abbrev S256x256 : Shape := ⟨2, ![256, 256]⟩
abbrev S128x128 : Shape := ⟨2, ![128, 128]⟩
abbrev S256x128 : Shape := ⟨2, ![256, 128]⟩
abbrev S256x128x1 : Shape := ⟨3, ![256, 128, 1]⟩
abbrev S128x128x1 : Shape := ⟨3, ![128, 128, 1]⟩
abbrev S256x96 : Shape := ⟨2, ![256, 96]⟩
abbrev S896x256 : Shape := ⟨2, ![896, 256]⟩
abbrev S224x16x256 : Shape := ⟨3, ![224, 16, 256]⟩
abbrev S224x1x256 : Shape := ⟨3, ![224, 1, 256]⟩

abbrev nBuf : Space → Nat
  | .hbm => 9
  | .vmem => 14
  | .smem => 0
  | _ => 0

abbrev bufTy : (tb : Table) → Fin (tcTables nBuf tb) → BufTy
  | .hbm, ⟨0, _⟩ => ⟨S1x256x3584, .bf16⟩
  | .hbm, ⟨1, _⟩ => ⟨S3584x9472, .i8⟩
  | .hbm, ⟨2, _⟩ => ⟨S224x18944, .i8⟩
  | .hbm, ⟨3, _⟩ => ⟨S3584x9472, .i8⟩
  | .hbm, ⟨4, _⟩ => ⟨S224x18944, .i8⟩
  | .hbm, ⟨5, _⟩ => ⟨S256x3584, .bf16⟩
  | .hbm, ⟨6, _⟩ => ⟨S256x18944, .bf16⟩
  | .hbm, ⟨7, _⟩ => ⟨S256x1792, .i8⟩
  | .hbm, ⟨8, _⟩ => ⟨S256x224, .i8⟩
  | .local _ .vmem, ⟨0, _⟩ => ⟨S256x3584, .bf16⟩
  | .local _ .vmem, ⟨1, _⟩ => ⟨S3584x256, .i8⟩
  | .local _ .vmem, ⟨2, _⟩ => ⟨S3584x256, .i8⟩
  | .local _ .vmem, ⟨3, _⟩ => ⟨S224x256, .i8⟩
  | .local _ .vmem, ⟨4, _⟩ => ⟨S224x256, .i8⟩
  | .local _ .vmem, ⟨5, _⟩ => ⟨S3584x256, .i8⟩
  | .local _ .vmem, ⟨6, _⟩ => ⟨S3584x256, .i8⟩
  | .local _ .vmem, ⟨7, _⟩ => ⟨S224x256, .i8⟩
  | .local _ .vmem, ⟨8, _⟩ => ⟨S224x256, .i8⟩
  | .local _ .vmem, ⟨9, _⟩ => ⟨S256x256, .bf16⟩
  | .local _ .vmem, ⟨10, _⟩ => ⟨S256x256, .bf16⟩
  | .local _ .vmem, ⟨11, _⟩ => ⟨S256x1792, .i8⟩
  | .local _ .vmem, ⟨12, _⟩ => ⟨S256x224, .i8⟩
  | .local _ .vmem, ⟨13, _⟩ => ⟨S256x3584, .bf16⟩
  | _, _ => ⟨S1x256x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![74], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c37_i32 : BitVec 32 := 37#32
  let c0_i32 : BitVec 32 := 0#32
  let v0 : BitVec 1 := Scalar.cmpi .eq c37_i32 c0_i32
  let c1_i32 : BitVec 32 := 1#32
  let v1 : BitVec 32 := Scalar.select v0 c1_i32 c37_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c37_i32 : BitVec 32 := 37#32
  let c0_i32 : BitVec 32 := 0#32
  let v0 : BitVec 1 := Scalar.cmpi .eq c37_i32 c0_i32
  let c1_i32 : BitVec 32 := 1#32
  let v1 : BitVec 32 := Scalar.select v0 c1_i32 c37_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S224x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3584x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S224x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1792 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x224 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x256x3584 : Shape := ⟨3, ![1, 256, 3584]⟩
abbrev S3584x9472 : Shape := ⟨2, ![3584, 9472]⟩
abbrev S224x18944 : Shape := ⟨2, ![224, 18944]⟩
abbrev S1x256x224x16 : Shape := ⟨4, ![1, 256, 224, 16]⟩
abbrev S_ : Shape := ⟨0, ![]⟩
abbrev S1x256x224 : Shape := ⟨3, ![1, 256, 224]⟩
abbrev S1x256x224x1 : Shape := ⟨4, ![1, 256, 224, 1]⟩
abbrev S254 : Shape := ⟨1, ![254]⟩
abbrev S1x256x224x1x1 : Shape := ⟨5, ![1, 256, 224, 1, 1]⟩
abbrev S1x1x1x1x254 : Shape := ⟨5, ![1, 1, 1, 1, 254]⟩
abbrev S1x256x224x1x254 : Shape := ⟨5, ![1, 256, 224, 1, 254]⟩
abbrev S1x256x1792x2 : Shape := ⟨4, ![1, 256, 1792, 2]⟩
abbrev S1x256x1792x1 : Shape := ⟨4, ![1, 256, 1792, 1]⟩
abbrev S1x256x1792 : Shape := ⟨3, ![1, 256, 1792]⟩
abbrev S224x9472 : Shape := ⟨2, ![224, 9472]⟩
abbrev S224x16x9472 : Shape := ⟨3, ![224, 16, 9472]⟩
abbrev S224x1x9472 : Shape := ⟨3, ![224, 1, 9472]⟩
abbrev S1x256x9472 : Shape := ⟨3, ![1, 256, 9472]⟩
abbrev S1x256x18944 : Shape := ⟨3, ![1, 256, 18944]⟩
abbrev S256x18944 : Shape := ⟨2, ![256, 18944]⟩
abbrev S256x1792 : Shape := ⟨2, ![256, 1792]⟩
abbrev S256x224 : Shape := ⟨2, ![256, 224]⟩

abbrev nBuf : Space → Nat
  | .hbm => 228
  | .vmem => 0
  | .smem => 0
  | _ => 0

abbrev hbmTy0_0 (i : Nat) : BufTy := match i % 128 with
  | 0 => ⟨S1x256x3584, .bf16⟩
  | 1 => ⟨S3584x9472, .i8⟩
  | 2 => ⟨S224x18944, .i8⟩
  | 3 => ⟨S3584x9472, .i8⟩
  | 4 => ⟨S224x18944, .i8⟩
  | 5 => ⟨S1x256x3584, .f32⟩
  | 6 => ⟨S1x256x224x16, .f32⟩
  | 7 => ⟨S1x256x224x16, .f32⟩
  | 8 => ⟨S_, .f32⟩
  | 9 => ⟨S1x256x224, .f32⟩
  | 10 => ⟨S1x256x224x1, .f32⟩
  | 11 => ⟨S_, .f32⟩
  | 12 => ⟨S1x256x224x1, .f32⟩
  | 13 => ⟨S1x256x224x1, .i1⟩
  | 14 => ⟨S_, .i32⟩
  | 15 => ⟨S1x256x224x1, .i32⟩
  | 16 => ⟨S254, .i32⟩
  | 17 => ⟨S_, .i32⟩
  | 18 => ⟨S254, .i32⟩
  | 19 => ⟨S254, .i32⟩
  | 20 => ⟨S1x256x224x1x1, .f32⟩
  | 21 => ⟨S254, .f32⟩
  | 22 => ⟨S_, .f32⟩
  | 23 => ⟨S254, .f32⟩
  | 24 => ⟨S254, .f32⟩
  | 25 => ⟨S1x1x1x1x254, .f32⟩
  | 26 => ⟨S1x256x224x1x254, .f32⟩
  | 27 => ⟨S1x256x224x1x254, .f32⟩
  | 28 => ⟨S1x256x224x1x254, .i1⟩
  | 29 => ⟨S1x256x224x1x254, .i32⟩
  | 30 => ⟨S_, .i32⟩
  | 31 => ⟨S1x256x224x1, .i32⟩
  | 32 => ⟨S_, .i32⟩
  | 33 => ⟨S1x256x224x1, .i32⟩
  | 34 => ⟨S1x256x224x1, .i32⟩
  | 35 => ⟨S1x256x224x1, .i32⟩
  | 36 => ⟨S_, .i32⟩
  | 37 => ⟨S1x256x224x1, .i32⟩
  | 38 => ⟨S1x256x224x1, .i32⟩
  | 39 => ⟨S1x256x224x1, .f32⟩
  | 40 => ⟨S_, .f32⟩
  | 41 => ⟨S1x256x224x1, .f32⟩
  | 42 => ⟨S1x256x224x1, .f32⟩
  | 43 => ⟨S1x256x224x16, .f32⟩
  | 44 => ⟨S1x256x224x16, .f32⟩
  | 45 => ⟨S1x256x224x16, .f32⟩
  | 46 => ⟨S_, .f32⟩
  | 47 => ⟨S1x256x224x16, .f32⟩
  | 48 => ⟨S1x256x224x16, .f32⟩
  | 49 => ⟨S_, .f32⟩
  | 50 => ⟨S1x256x224x16, .f32⟩
  | 51 => ⟨S1x256x224x16, .f32⟩
  | 52 => ⟨S1x256x224x16, .i32⟩
  | 53 => ⟨S_, .i32⟩
  | 54 => ⟨S1x256x224x1, .i32⟩
  | 55 => ⟨S1x256x224x1, .i32⟩
  | 56 => ⟨S1x256x224, .i32⟩
  | 57 => ⟨S1x256x224x16, .i32⟩
  | 58 => ⟨S_, .i32⟩
  | 59 => ⟨S1x256x224x16, .i32⟩
  | 60 => ⟨S1x256x224x16, .i1⟩
  | 61 => ⟨S1x256x224x16, .i32⟩
  | 62 => ⟨S_, .i32⟩
  | 63 => ⟨S1x256x224x16, .i32⟩
  | 64 => ⟨S1x256x224x16, .i32⟩
  | 65 => ⟨S1x256x224x16, .i32⟩
  | 66 => ⟨S1x256x1792x2, .i32⟩
  | 67 => ⟨S1x256x1792x1, .i32⟩
  | 68 => ⟨S1x256x1792, .i32⟩
  | 69 => ⟨S1x256x1792x1, .i32⟩
  | 70 => ⟨S1x256x1792, .i32⟩
  | 71 => ⟨S_, .i32⟩
  | 72 => ⟨S1x256x1792, .i32⟩
  | 73 => ⟨S1x256x1792, .i32⟩
  | 74 => ⟨S1x256x1792, .i32⟩
  | 75 => ⟨S1x256x1792, .i8⟩
  | 76 => ⟨S1x256x224x16, .f32⟩
  | 77 => ⟨S1x256x224x16, .bf16⟩
  | 78 => ⟨S1x256x224, .f32⟩
  | 79 => ⟨S_, .f32⟩
  | 80 => ⟨S1x256x224, .f32⟩
  | 81 => ⟨S1x256x224, .f32⟩
  | 82 => ⟨S1x256x224, .bf16⟩
  | 83 => ⟨S1x256x224x1, .bf16⟩
  | 84 => ⟨S1x256x224x16, .bf16⟩
  | 85 => ⟨S1x256x224x16, .bf16⟩
  | 86 => ⟨S1x256x3584, .bf16⟩
  | 87 => ⟨S224x18944, .i32⟩
  | 88 => ⟨S3584x9472, .i32⟩
  | 89 => ⟨S_, .i32⟩
  | 90 => ⟨S3584x9472, .i32⟩
  | 91 => ⟨S3584x9472, .i32⟩
  | 92 => ⟨S224x9472, .i32⟩
  | 93 => ⟨S_, .i32⟩
  | 94 => ⟨S3584x9472, .i32⟩
  | 95 => ⟨S3584x9472, .i32⟩
  | 96 => ⟨S_, .i32⟩
  | 97 => ⟨S3584x9472, .i32⟩
  | 98 => ⟨S3584x9472, .i32⟩
  | 99 => ⟨S_, .i32⟩
  | 100 => ⟨S3584x9472, .i32⟩
  | 101 => ⟨S3584x9472, .i32⟩
  | 102 => ⟨S_, .i32⟩
  | 103 => ⟨S3584x9472, .i32⟩
  | 104 => ⟨S3584x9472, .i32⟩
  | 105 => ⟨S3584x9472, .i32⟩
  | 106 => ⟨S3584x9472, .f32⟩
  | 107 => ⟨S3584x9472, .bf16⟩
  | 108 => ⟨S224x16x9472, .bf16⟩
  | 109 => ⟨S224x9472, .f32⟩
  | 110 => ⟨S_, .f32⟩
  | 111 => ⟨S224x9472, .f32⟩
  | 112 => ⟨S224x9472, .f32⟩
  | 113 => ⟨S224x9472, .bf16⟩
  | 114 => ⟨S224x1x9472, .bf16⟩
  | 115 => ⟨S224x16x9472, .bf16⟩
  | 116 => ⟨S224x16x9472, .bf16⟩
  | 117 => ⟨S3584x9472, .bf16⟩
  | 118 => ⟨S_, .i32⟩
  | 119 => ⟨S3584x9472, .i32⟩
  | 120 => ⟨S3584x9472, .i32⟩
  | 121 => ⟨S224x9472, .i32⟩
  | 122 => ⟨S_, .i32⟩
  | 123 => ⟨S3584x9472, .i32⟩
  | 124 => ⟨S3584x9472, .i32⟩
  | 125 => ⟨S_, .i32⟩
  | 126 => ⟨S3584x9472, .i32⟩
  | 127 => ⟨S3584x9472, .i32⟩
  | _ => ⟨S1x256x3584, .bf16⟩

abbrev hbmTy0_1 (i : Nat) : BufTy := match i % 128 with
  | 0 => ⟨S_, .i32⟩
  | 1 => ⟨S3584x9472, .i32⟩
  | 2 => ⟨S3584x9472, .i32⟩
  | 3 => ⟨S_, .i32⟩
  | 4 => ⟨S3584x9472, .i32⟩
  | 5 => ⟨S3584x9472, .i32⟩
  | 6 => ⟨S3584x9472, .i32⟩
  | 7 => ⟨S3584x9472, .f32⟩
  | 8 => ⟨S3584x9472, .bf16⟩
  | 9 => ⟨S224x16x9472, .bf16⟩
  | 10 => ⟨S224x9472, .f32⟩
  | 11 => ⟨S_, .f32⟩
  | 12 => ⟨S224x9472, .f32⟩
  | 13 => ⟨S224x9472, .f32⟩
  | 14 => ⟨S224x9472, .bf16⟩
  | 15 => ⟨S224x1x9472, .bf16⟩
  | 16 => ⟨S224x16x9472, .bf16⟩
  | 17 => ⟨S224x16x9472, .bf16⟩
  | 18 => ⟨S3584x9472, .bf16⟩
  | 19 => ⟨S1x256x9472, .f32⟩
  | 20 => ⟨S1x256x9472, .f32⟩
  | 21 => ⟨S1x256x18944, .f32⟩
  | 22 => ⟨S224x18944, .i32⟩
  | 23 => ⟨S3584x9472, .i32⟩
  | 24 => ⟨S_, .i32⟩
  | 25 => ⟨S3584x9472, .i32⟩
  | 26 => ⟨S3584x9472, .i32⟩
  | 27 => ⟨S224x9472, .i32⟩
  | 28 => ⟨S_, .i32⟩
  | 29 => ⟨S3584x9472, .i32⟩
  | 30 => ⟨S3584x9472, .i32⟩
  | 31 => ⟨S_, .i32⟩
  | 32 => ⟨S3584x9472, .i32⟩
  | 33 => ⟨S3584x9472, .i32⟩
  | 34 => ⟨S_, .i32⟩
  | 35 => ⟨S3584x9472, .i32⟩
  | 36 => ⟨S3584x9472, .i32⟩
  | 37 => ⟨S_, .i32⟩
  | 38 => ⟨S3584x9472, .i32⟩
  | 39 => ⟨S3584x9472, .i32⟩
  | 40 => ⟨S3584x9472, .i32⟩
  | 41 => ⟨S3584x9472, .f32⟩
  | 42 => ⟨S3584x9472, .bf16⟩
  | 43 => ⟨S224x16x9472, .bf16⟩
  | 44 => ⟨S224x9472, .f32⟩
  | 45 => ⟨S_, .f32⟩
  | 46 => ⟨S224x9472, .f32⟩
  | 47 => ⟨S224x9472, .f32⟩
  | 48 => ⟨S224x9472, .bf16⟩
  | 49 => ⟨S224x1x9472, .bf16⟩
  | 50 => ⟨S224x16x9472, .bf16⟩
  | 51 => ⟨S224x16x9472, .bf16⟩
  | 52 => ⟨S3584x9472, .bf16⟩
  | 53 => ⟨S_, .i32⟩
  | 54 => ⟨S3584x9472, .i32⟩
  | 55 => ⟨S3584x9472, .i32⟩
  | 56 => ⟨S224x9472, .i32⟩
  | 57 => ⟨S_, .i32⟩
  | 58 => ⟨S3584x9472, .i32⟩
  | 59 => ⟨S3584x9472, .i32⟩
  | 60 => ⟨S_, .i32⟩
  | 61 => ⟨S3584x9472, .i32⟩
  | 62 => ⟨S3584x9472, .i32⟩
  | 63 => ⟨S_, .i32⟩
  | 64 => ⟨S3584x9472, .i32⟩
  | 65 => ⟨S3584x9472, .i32⟩
  | 66 => ⟨S_, .i32⟩
  | 67 => ⟨S3584x9472, .i32⟩
  | 68 => ⟨S3584x9472, .i32⟩
  | 69 => ⟨S3584x9472, .i32⟩
  | 70 => ⟨S3584x9472, .f32⟩
  | 71 => ⟨S3584x9472, .bf16⟩
  | 72 => ⟨S224x16x9472, .bf16⟩
  | 73 => ⟨S224x9472, .f32⟩
  | 74 => ⟨S_, .f32⟩
  | 75 => ⟨S224x9472, .f32⟩
  | 76 => ⟨S224x9472, .f32⟩
  | 77 => ⟨S224x9472, .bf16⟩
  | 78 => ⟨S224x1x9472, .bf16⟩
  | 79 => ⟨S224x16x9472, .bf16⟩
  | 80 => ⟨S224x16x9472, .bf16⟩
  | 81 => ⟨S3584x9472, .bf16⟩
  | 82 => ⟨S1x256x9472, .f32⟩
  | 83 => ⟨S1x256x9472, .f32⟩
  | 84 => ⟨S1x256x18944, .f32⟩
  | 85 => ⟨S1x256x18944, .f32⟩
  | 86 => ⟨S1x256x18944, .f32⟩
  | 87 => ⟨S_, .f32⟩
  | 88 => ⟨S1x256x18944, .f32⟩
  | 89 => ⟨S1x256x18944, .f32⟩
  | 90 => ⟨S_, .f32⟩
  | 91 => ⟨S1x256x18944, .f32⟩
  | 92 => ⟨S1x256x18944, .f32⟩
  | 93 => ⟨S1x256x18944, .f32⟩
  | 94 => ⟨S1x256x18944, .f32⟩
  | 95 => ⟨S1x256x18944, .bf16⟩
  | 96 => ⟨S1x256x224, .i8⟩
  | 97 => ⟨S256x18944, .bf16⟩
  | 98 => ⟨S256x1792, .i8⟩
  | 99 => ⟨S256x224, .i8⟩
  | _ => ⟨S1x256x3584, .bf16⟩

abbrev hbmTy (i : Nat) : BufTy := match i / 128 with
  | 0 => hbmTy0_0 i
  | 1 => hbmTy0_1 i
  | _ => ⟨S1x256x3584, .bf16⟩

abbrev bufTy : (tb : Table) → Fin (tcTables nBuf tb) → BufTy
  | .hbm, ⟨i, _⟩ => hbmTy i
  | _, _ => ⟨S1x256x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_15 : Ref sig .tc := ⟨.hbm, 93, rfl⟩
abbrev main_v71 : Ref sig .tc := ⟨.hbm, 94, rfl⟩
abbrev main_v72 : Ref sig .tc := ⟨.hbm, 95, rfl⟩
abbrev main_c_16 : Ref sig .tc := ⟨.hbm, 96, rfl⟩
abbrev main_v73 : Ref sig .tc := ⟨.hbm, 97, rfl⟩
abbrev main_v74 : Ref sig .tc := ⟨.hbm, 98, rfl⟩
abbrev main_c_17 : Ref sig .tc := ⟨.hbm, 99, rfl⟩
abbrev main_v75 : Ref sig .tc := ⟨.hbm, 100, rfl⟩
abbrev main_v76 : Ref sig .tc := ⟨.hbm, 101, rfl⟩
abbrev main_c_18 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_19 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_c_20 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_c_21 : Ref sig .tc := ⟨.hbm, 122, rfl⟩
abbrev main_v94 : Ref sig .tc := ⟨.hbm, 123, rfl⟩
abbrev main_v95 : Ref sig .tc := ⟨.hbm, 124, rfl⟩
abbrev main_c_22 : Ref sig .tc := ⟨.hbm, 125, rfl⟩
abbrev main_v96 : Ref sig .tc := ⟨.hbm, 126, rfl⟩
abbrev main_v97 : Ref sig .tc := ⟨.hbm, 127, rfl⟩
abbrev main_c_23 : Ref sig .tc := ⟨.hbm, 128, rfl⟩
abbrev main_v98 : Ref sig .tc := ⟨.hbm, 129, rfl⟩
abbrev main_v99 : Ref sig .tc := ⟨.hbm, 130, rfl⟩
abbrev main_c_24 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_25 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_c_26 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_c_27 : Ref sig .tc := ⟨.hbm, 156, rfl⟩
abbrev main_v122 : Ref sig .tc := ⟨.hbm, 157, rfl⟩
abbrev main_v123 : Ref sig .tc := ⟨.hbm, 158, rfl⟩
abbrev main_c_28 : Ref sig .tc := ⟨.hbm, 159, rfl⟩
abbrev main_v124 : Ref sig .tc := ⟨.hbm, 160, rfl⟩
abbrev main_v125 : Ref sig .tc := ⟨.hbm, 161, rfl⟩
abbrev main_c_29 : Ref sig .tc := ⟨.hbm, 162, rfl⟩
abbrev main_v126 : Ref sig .tc := ⟨.hbm, 163, rfl⟩
abbrev main_v127 : Ref sig .tc := ⟨.hbm, 164, rfl⟩
abbrev main_c_30 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_31 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_c_32 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_c_33 : Ref sig .tc := ⟨.hbm, 185, rfl⟩
abbrev main_v145 : Ref sig .tc := ⟨.hbm, 186, rfl⟩
abbrev main_v146 : Ref sig .tc := ⟨.hbm, 187, rfl⟩
abbrev main_c_34 : Ref sig .tc := ⟨.hbm, 188, rfl⟩
abbrev main_v147 : Ref sig .tc := ⟨.hbm, 189, rfl⟩
abbrev main_v148 : Ref sig .tc := ⟨.hbm, 190, rfl⟩
abbrev main_c_35 : Ref sig .tc := ⟨.hbm, 191, rfl⟩
abbrev main_v149 : Ref sig .tc := ⟨.hbm, 192, rfl⟩
abbrev main_v150 : Ref sig .tc := ⟨.hbm, 193, rfl⟩
abbrev main_c_36 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_cst_37 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_call1_v0 : Ref sig .tc := ⟨.hbm, 213, rfl⟩
abbrev main_call1_v1 : Ref sig .tc := ⟨.hbm, 214, rfl⟩
abbrev main_call1_cst : Ref sig .tc := ⟨.hbm, 215, rfl⟩
abbrev main_call1_v2 : Ref sig .tc := ⟨.hbm, 216, rfl⟩
abbrev main_call1_v3 : Ref sig .tc := ⟨.hbm, 217, rfl⟩
abbrev main_call1_cst_0 : Ref sig .tc := ⟨.hbm, 218, rfl⟩
abbrev main_call1_v4 : Ref sig .tc := ⟨.hbm, 219, rfl⟩
abbrev main_call1_v5 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩

abbrev nD : Nat := 1
abbrev τ : Topo := Topo.v7x

variable {F : FTy → Type} [FloatOps F]
-- ==== Proof.K.Runs.lean ====
module

public import proofs.«01_k».proof.Proof.Gen.Kernel.Frame
public import Idealize.ShloMosaic.Lib.Claim
public import Idealize.ShloMosaic.Lib.Pipeline.TableIdle

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 74 = 0 :=
  (fun t => by
    have ht : t.val < 74 := Nat.lt_of_lt_of_eq t.isLt N_0
    have e0 : (grid0.coords t 0).val = t.val / 1 % 74 := Pipeline.Grid.coords_val t 0 (by decide) rfl
    simp only [cond0_0, k0_cond1, e0]
    word_cmp
   : ∀ t : Fin grid0.N, cond0_0 (grid0.coords t) ↔ t.val % 74 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle. -/
theorem liveAt0_5 : ∀ t : Fin cfg0.N, cfg0.idle 5 (grid0.coords t) = false := fun _ => rfl
/-- At the first point the body stores into output 6. -/
theorem liveAt0_6_A : ∀ t : Fin cfg0.N, cond0_0 (grid0.coords t) → cfg0.idle 6 (grid0.coords t) = false := by decide +kernel
/-- At every other point it leaves output 6 alone. -/
theorem idleAt0_6_B : ∀ t : Fin cfg0.N, ¬cond0_0 (grid0.coords t) → cfg0.idle 6 (grid0.coords t) = true := by decide +kernel
/-- Whether output 6's buffer is still untouched before a point: only before the first one, and after the final write-back. -/
def freshTab0_6 : ℕ → Bool
  | 0 => true
  | n + 1 => n == 73
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
theorem notFresh0_6_B : ∀ t : Fin cfg0.N, ¬cond0_0 (grid0.coords t) → cfg0.fresh 6 t.val = false := by
  intro t; rw [fresh0_6_eq t]; revert t; decide +kernel
/-- At the first point the body stores into output 7. -/
theorem liveAt0_7_A : ∀ t : Fin cfg0.N, cond0_0 (grid0.coords t) → cfg0.idle 7 (grid0.coords t) = false := by decide +kernel
/-- At every other point it leaves output 7 alone. -/
theorem idleAt0_7_B : ∀ t : Fin cfg0.N, ¬cond0_0 (grid0.coords t) → cfg0.idle 7 (grid0.coords t) = true := by decide +kernel
/-- Whether output 7's buffer is still untouched before a point: only before the first one, and after the final write-back. -/
def freshTab0_7 : ℕ → Bool
  | 0 => true
  | n + 1 => n == 73
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
theorem notFresh0_7_B : ∀ t : Fin cfg0.N, ¬cond0_0 (grid0.coords t) → cfg0.fresh 7 t.val = false := by
  intro t; rw [fresh0_7_eq t]; revert t; decide +kernel
/-! ## The kernel body on any staging memrefs: a subtype the run finds -/

/-- One staging buffer of output window 5, through which its contents are stated (`View.read_writes_of_cover`: the
    choice does not matter). -/
abbrev VO0_5 : View sig .tc .vmem S256x256 .bf16 := (Memref.whole cc0_stg5_0 : Memref sig .tc .vmem S256x256 .bf16).view
/-- One staging buffer of output window 6, through which its contents are stated (`View.read_writes_of_cover`: the
    choice does not matter). -/
abbrev VO0_6 : View sig .tc .vmem S256x1792 .i8 := (Memref.whole cc0_stg6_0 : Memref sig .tc .vmem S256x1792 .i8).view
/-- One staging buffer of output window 7, through which its contents are stated (`View.read_writes_of_cover`: the
    choice does not matter). -/
abbrev VO0_7 : View sig .tc .vmem S256x224 .i8 := (Memref.whole cc0_stg7_0 : Memref sig .tc .vmem S256x224 .i8).view
/-- Each window's current staging memref at point `t`, spelled as the pipeline passes it (`bodyAt0`), and its wholeness. -/
abbrev ms0_0 (t : Fin cfg0.N) : Memref sig .tc .vmem S256x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3584x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S224x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S224x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1792 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x224 .i8 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x3584 .bf16 := Memref.whole cc0_scratch0

/-- The scratch `arg9` the kernel carries between points, as a view: what it holds is stated through it. -/
abbrev VS0_0 : View sig .tc .vmem S256x3584 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Run

end
-- ==== Proof.K.RunA.lean ====
module

public import proofs.«01_k».proof.Proof.K.Runs
public import proofs.«01_k».proof.Proof.Gen.Kernel.Skeleton

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1848000 in
/-- At the first point: what the body's stores leave in each output's staging buffer and in the carried scratch, as pieces (last first),
    with the run of the body that finds them. -/
noncomputable def kernelRun0_A (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) :
    Σ' (L5 : List (View.Piece (Elt F) S256x256 .bf16)), Σ' (L6 : List (View.Piece (Elt F) S256x1792 .i8)), Σ' (L7 : List (View.Piece (Elt F) S256x224 .i8)), { LS0 : List (View.Piece (Elt F) S256x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_msfp12_gated_linear i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_msfp12_gated_linear_eq_skeleton]; unfold cc0_msfp12_gated_linear_skel
    simp only [k0_part123_eq_skeleton, k0_part121_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part122_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part124_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; iexact HS0

end Cert.Kernel.Run

end
-- ==== Proof.K.RunB.lean ====
module

public import proofs.«01_k».proof.Proof.K.RunA

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- At every later point: what the body's one store leaves in the first output's staging buffer; the other two outputs and the scratch
    come back as they were. -/
noncomputable def kernelRun0_B (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : ¬cond0_0 i)
    (x0 : Vec F S256x3584 .bf16) (x1 : Vec F S3584x256 .i8) (x2 : Vec F S224x256 .i8) (x3 : Vec F S3584x256 .i8) (x4 : Vec F S224x256 .i8) (xo6 : Vec F S256x1792 .i8) (xo7 : Vec F S256x224 .i8) (xs0 : Vec F S256x3584 .bf16) :
    { L5 : List (View.Piece (Elt F) S256x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6 ∗ owns (c : Thread nD τ) arg8 fullShare xo7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xo6 ∗ owns (c : Thread nD τ) arg8 fullShare xo7 ∗ owns (c : Thread nD τ) arg9 fullShare xs0) -∗ K ⟨⟩))
          ⊢ wp frame (wpE (defs₀ (F := F)) Variants.none c none) E (cc0_msfp12_gated_linear i arg1 harg1 arg2 harg2 arg3 harg3 arg4 harg4 arg5 harg5 arg6 harg6 arg7 harg7 arg8 harg8 arg9 harg9) K } := by
  refine ⟨?_, fun E K => ?run⟩
  case run =>
    simp only [cc0_msfp12_gated_linear_eq_skeleton]; unfold cc0_msfp12_gated_linear_skel
    simp only [k0_part123_eq_skeleton, k0_part124_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    iexists _; isplitr; · ipureintro; exact harg9.read_unread _
    iexact HS0

end Cert.Kernel.Run

end
-- ==== Proof.K.Frame.lean ====
module

public import proofs.«01_k».proof.Proof.K.RunB

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- These pieces cover the buffer. -/
theorem cover0_A_5 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) (y : S256x256.Idx) :
    ∃ pc ∈ (kernelRun0_A c i arg1 harg1 arg2 harg2 arg3 harg3 arg4 harg4 arg5 harg5 arg6 harg6 arg7 harg7 arg8 harg8 arg9 harg9 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4).1 S256x256.size (by sl_kernel_rfl) y

/-- What the first point leaves in output 5. -/
def out0_A_5 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) : Vec F S256x256 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 x0 x1 x2 x3 x4).1)

/-- These pieces cover the buffer. -/
theorem cover0_A_6 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) (y : S256x1792.Idx) :
    ∃ pc ∈ (kernelRun0_A c i arg1 harg1 arg2 harg2 arg3 harg3 arg4 harg4 arg5 harg5 arg6 harg6 arg7 harg7 arg8 harg8 arg9 harg9 hc0 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4).2.1 S256x128.size (by sl_kernel_rfl) y

/-- What the first point leaves in output 6. -/
def out0_A_6 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) : Vec F S256x1792 .i8 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3 x4).2.1)

/-- These pieces cover the buffer. -/
theorem cover0_A_7 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) (y : S256x224.Idx) :
    ∃ pc ∈ (kernelRun0_A c i arg1 harg1 arg2 harg2 arg3 harg3 arg4 harg4 arg5 harg5 arg6 harg6 arg7 harg7 arg8 harg8 arg9 harg9 hc0 x0 x1 x2 x3 x4).2.2.1, y ∈ pc.1.set :=
  View.cover_of_tiledBy (kernelRun0_A c i arg1 harg1 arg2 harg2 arg3 harg3 arg4 harg4 arg5 harg5 arg6 harg6 arg7 harg7 arg8 harg8 arg9 harg9 hc0 x0 x1 x2 x3 x4).2.2.1 ![256, 32] (by sl_kernel_rfl) y

/-- What the first point leaves in output 7. -/
def out0_A_7 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) : Vec F S256x224 .i8 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4).2.2.1)

/-- These pieces cover the buffer. -/
theorem scover0_A_0 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) (y : S256x3584.Idx) :
    ∃ pc ∈ (kernelRun0_A c i arg1 harg1 arg2 harg2 arg3 harg3 arg4 harg4 arg5 harg5 arg6 harg6 arg7 harg7 arg8 harg8 arg9 harg9 hc0 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4).2.2.2.1 S256x128.size (by sl_kernel_rfl) y

/-- What the first point leaves in scratch `arg9`. -/
def sout0_A_0 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) : Vec F S256x3584 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 x0 x1 x2 x3 x4).2.2.2.1)

/-- This piece covers the buffer. -/
theorem cover0_B_5 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : ¬cond0_0 i)
    (x0 : Vec F S256x3584 .bf16) (x1 : Vec F S3584x256 .i8) (x2 : Vec F S224x256 .i8) (x3 : Vec F S3584x256 .i8) (x4 : Vec F S224x256 .i8) (xo6 : Vec F S256x1792 .i8) (xo7 : Vec F S256x224 .i8) (xs0 : Vec F S256x3584 .bf16) (y : S256x256.Idx) :
    ∃ pc ∈ (kernelRun0_B c i arg1 harg1 arg2 harg2 arg3 harg3 arg4 harg4 arg5 harg5 arg6 harg6 arg7 harg7 arg8 harg8 arg9 harg9 hc0 x0 x1 x2 x3 x4 xo6 xo7 xs0).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 xo6 xo7 xs0).1 S256x256.size (by sl_kernel_rfl) y

/-- What a later point leaves in output 5. -/
def out0_B_5 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : ¬cond0_0 i)
    (x0 : Vec F S256x3584 .bf16) (x1 : Vec F S3584x256 .i8) (x2 : Vec F S224x256 .i8) (x3 : Vec F S3584x256 .i8) (x4 : Vec F S224x256 .i8) (xo6 : Vec F S256x1792 .i8) (xo7 : Vec F S256x224 .i8) (xs0 : Vec F S256x3584 .bf16) : Vec F S256x256 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 x0 x1 x2 x3 x4 xo6 xo7 xs0).1)

/-- The first point of the grid. -/
def pt0 : Fin cfg0.N := ⟨0, lt_of_lt_of_eq (by decide) N_0.symm⟩

/-- The scratch after the first point, and ever after. -/
def XOP (c : Dev nD) : Vec F S256x3584 .bf16 :=
  sout0_A_0 c (grid0.coords pt0) (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) (ms0_6 pt0) (hs0_6 pt0) (ms0_7 pt0) (hs0_7 pt0) scM0_0 (Memref.isWhole_whole _) ((hcond0_0 pt0).mpr (Nat.zero_mod _)) (iblk m c 0 pt0) (iblk m c 1 pt0) (iblk m c 2 pt0) (iblk m c 3 pt0) (iblk m c 4 pt0)

/-- The packed codes after the first point, and ever after. -/
def XP (c : Dev nD) : Vec F S256x1792 .i8 :=
  out0_A_6 c (grid0.coords pt0) (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) (ms0_6 pt0) (hs0_6 pt0) (ms0_7 pt0) (hs0_7 pt0) scM0_0 (Memref.isWhole_whole _) ((hcond0_0 pt0).mpr (Nat.zero_mod _)) (iblk m c 0 pt0) (iblk m c 1 pt0) (iblk m c 2 pt0) (iblk m c 3 pt0) (iblk m c 4 pt0)

/-- The exponents after the first point, and ever after. -/
def XE (c : Dev nD) : Vec F S256x224 .i8 :=
  out0_A_7 c (grid0.coords pt0) (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) (ms0_6 pt0) (hs0_6 pt0) (ms0_7 pt0) (hs0_7 pt0) scM0_0 (Memref.isWhole_whole _) ((hcond0_0 pt0).mpr (Nat.zero_mod _)) (iblk m c 0 pt0) (iblk m c 1 pt0) (iblk m c 2 pt0) (iblk m c 3 pt0) (iblk m c 4 pt0)

/-- The block of the first output a point computes. -/
def YB (c : Dev nD) (t : Fin cfg0.N) : Vec F S256x256 .bf16 :=
  if h0 : t.val % 74 = 0 then
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t)
  else
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (XP m c) (XE m c) (XOP m c)

theorem YB_A (c : Dev nD) (t : Fin cfg0.N) (h0 : t.val % 74 = 0) :
    YB m c t = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) := dif_pos h0

theorem YB_B (c : Dev nD) (t : Fin cfg0.N) (h0 : ¬t.val % 74 = 0) :
    YB m c t = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (XP m c) (XE m c) (XOP m c) := dif_neg h0

/-- The region's invariant before position `n`: before the first point the scratch at anything, afterwards at `XOP`. -/
def PhiS (c : Dev nD) : ℕ → sProp 𝕄
  | 0 => Pipeline.ΦA spec0 c
  | _ + 1 => iprop(iprop(owns (c : Thread nD τ) scM0_0 fullShare (XOP m c)) ∗ (∃ r, prngReg c r))

theorem PhiS_zero (c : Dev nD) (n : ℕ) (hz : n = 0) : PhiS m c n = Pipeline.ΦA spec0 c := by
  subst hz; rfl

theorem PhiS_succ (c : Dev nD) (n : ℕ) :
    PhiS m c (n + 1) = iprop(iprop(owns (c : Thread nD τ) scM0_0 fullShare (XOP m c)) ∗ (∃ r, prngReg c r)) := rfl

theorem PhiS_pos (c : Dev nD) (n : ℕ) (hz : n ≠ 0) :
    PhiS m c n = iprop(iprop(owns (c : Thread nD τ) scM0_0 fullShare (XOP m c)) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => YB m c t
    | ⟨6, _⟩ => XP m c
    | ⟨7, _⟩ => XE m c
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = YB m c t := by dsimp only [dats]
theorem after0_6 (c : Dev nD) (t : Fin cfg0.N) : (dats m 0 c).after 6 t = XP m c := by dsimp only [dats]
theorem after0_7 (c : Dev nD) (t : Fin cfg0.N) : (dats m 0 c).after 7 t = XE m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- After the first point output 6's buffer holds what the first point left. -/
theorem before0_6_B (c : Dev nD) (t : Fin cfg0.N) (h0 : ¬t.val % 74 = 0) (d) :
    (dats m 0 c).before 6 t d = XP m c := by
  rw [Dat.before_out_traj _ 6 rfl (fun _ _ => rfl) (fun t _ _ _ => by rw [after0_6, after0_6]) t.val t rfl d,
    if_neg (by rw [notFresh0_6_B t (fun h => h0 ((hcond0_0 t).mp h))]; exact Bool.false_ne_true)]
  dsimp only [dats]

/-- … and the body hands it back so. -/
theorem leaves0_6_B (c : Dev nD) (t : Fin cfg0.N) (h0 : ¬t.val % 74 = 0) :
    owns (c : Thread nD τ) (ms0_6 t) fullShare (XP m c) ⊢ (dats m 0 c).leavesExact 6 t := by
  unfold Dat.leavesExact; rw [idleAt0_6_B t (fun h => h0 ((hcond0_0 t).mp h))]
  split
  · split
    · simp only [before0_6_B m c t h0]
      iintro H; iexists (fun _ => default); iexact H
    · rw [after0_6]
  · rename_i h; exact absurd h (by simp)

/-- After the first point output 7's buffer holds what the first point left. -/
theorem before0_7_B (c : Dev nD) (t : Fin cfg0.N) (h0 : ¬t.val % 74 = 0) (d) :
    (dats m 0 c).before 7 t d = XE m c := by
  rw [Dat.before_out_traj _ 7 rfl (fun _ _ => rfl) (fun t _ _ _ => by rw [after0_7, after0_7]) t.val t rfl d,
    if_neg (by rw [notFresh0_7_B t (fun h => h0 ((hcond0_0 t).mp h))]; exact Bool.false_ne_true)]
  dsimp only [dats]

/-- … and the body hands it back so. -/
theorem leaves0_7_B (c : Dev nD) (t : Fin cfg0.N) (h0 : ¬t.val % 74 = 0) :
    owns (c : Thread nD τ) (ms0_7 t) fullShare (XE m c) ⊢ (dats m 0 c).leavesExact 7 t := by
  unfold Dat.leavesExact; rw [idleAt0_7_B t (fun h => h0 ((hcond0_0 t).mp h))]
  split
  · split
    · simp only [before0_7_B m c t h0]
      iintro H; iexists (fun _ => default); iexact H
    · rw [after0_7]
  · rename_i h; exact absurd h (by simp)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, PhiS_succ]
  have hN : t.val < 74 := lt_of_lt_of_eq t.isLt (show cfg0.N = 74 from N_0)
  by_cases h0 : t.val % 74 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6_A t ((hcond0_0 t).mpr h0)], after0_6]
    rw [show (dats m 0 c).leavesExact 7 t = owns (c : Thread nD τ) (ms0_7 t) fullShare ((dats m 0 c).after 7 t) from by
      unfold Dat.leavesExact; rw [liveAt0_7_A t ((hcond0_0 t).mpr h0)], after0_7]
    have hz : t.val = 0 := by omega
    obtain rfl : t = pt0 := Fin.ext hz
    rw [PhiS_castSucc m c pt0, PhiS_zero m c _ hz, PhiA0_eq]
    rw [YB_A m c pt0 h0]
    unfold out0_A_5 XP XE XOP out0_A_6 out0_A_7 sout0_A_0
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords pt0) _ _ _ _ _ _ _ _ _ _ _ _ _ _ _ _ _ _ ((hcond0_0 pt0).mpr h0) (iblk m c 0 pt0) (iblk m c 1 pt0) (iblk m c 2 pt0) (iblk m c 3 pt0) (iblk m c 4 pt0)).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    iintro ⟨H0, H1, H2, H3, H4, ⟨%e5, H5⟩, ⟨%e6, H6⟩, ⟨%e7, H7⟩, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _)
    unfold owns; iexists _; isplitr
    swap; · iexact H7
    ipureintro; exact View.read_writes_of_cover _ _ _ _ _ (cover0_A_7 c _ _ _ _ _ _ _ _ _ _ _ _ _ _ _ _ _ _ _ _ _ _ _ _ _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    have hz : t.val ≠ 0 := by omega
    rw [PhiS_castSucc m c t, PhiS_pos m c _ hz]
    rw [YB_B m c t h0]
    simp only [before0_6_B m c t h0, before0_7_B m c t h0]
    unfold out0_B_5
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) _ _ _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    iintro ⟨H0, H1, H2, H3, H4, ⟨%e5, H5⟩, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _ _)
    isplitl [H6]
    · iapply (leaves0_6_B m c t h0); iexact H6
    iapply (leaves0_7_B m c t h0); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 74 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Run

end
-- ==== Proof.KI.Runs.lean ====
module

public import proofs.«01_k».proof.Proof.Gen.KernelIdeal.Frame
public import Idealize.ShloMosaic.Lib.Claim
public import Idealize.ShloMosaic.Lib.Pipeline.TableIdle

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 74 = 0 :=
  (fun t => by
    have ht : t.val < 74 := Nat.lt_of_lt_of_eq t.isLt N_0
    have e0 : (grid0.coords t 0).val = t.val / 1 % 74 := Pipeline.Grid.coords_val t 0 (by decide) rfl
    simp only [cond0_0, k0_cond1, e0]
    word_cmp
   : ∀ t : Fin grid0.N, cond0_0 (grid0.coords t) ↔ t.val % 74 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle. -/
theorem liveAt0_5 : ∀ t : Fin cfg0.N, cfg0.idle 5 (grid0.coords t) = false := fun _ => rfl
/-- At the first point the body stores into output 6. -/
theorem liveAt0_6_A : ∀ t : Fin cfg0.N, cond0_0 (grid0.coords t) → cfg0.idle 6 (grid0.coords t) = false := by decide +kernel
/-- At every other point it leaves output 6 alone. -/
theorem idleAt0_6_B : ∀ t : Fin cfg0.N, ¬cond0_0 (grid0.coords t) → cfg0.idle 6 (grid0.coords t) = true := by decide +kernel
/-- Whether output 6's buffer is still untouched before a point: only before the first one, and after the final write-back. -/
def freshTab0_6 : ℕ → Bool
  | 0 => true
  | n + 1 => n == 73
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
theorem notFresh0_6_B : ∀ t : Fin cfg0.N, ¬cond0_0 (grid0.coords t) → cfg0.fresh 6 t.val = false := by
  intro t; rw [fresh0_6_eq t]; revert t; decide +kernel
/-- At the first point the body stores into output 7. -/
theorem liveAt0_7_A : ∀ t : Fin cfg0.N, cond0_0 (grid0.coords t) → cfg0.idle 7 (grid0.coords t) = false := by decide +kernel
/-- At every other point it leaves output 7 alone. -/
theorem idleAt0_7_B : ∀ t : Fin cfg0.N, ¬cond0_0 (grid0.coords t) → cfg0.idle 7 (grid0.coords t) = true := by decide +kernel
/-- Whether output 7's buffer is still untouched before a point: only before the first one, and after the final write-back. -/
def freshTab0_7 : ℕ → Bool
  | 0 => true
  | n + 1 => n == 73
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
theorem notFresh0_7_B : ∀ t : Fin cfg0.N, ¬cond0_0 (grid0.coords t) → cfg0.fresh 7 t.val = false := by
  intro t; rw [fresh0_7_eq t]; revert t; decide +kernel
/-! ## The kernel body on any staging memrefs: a subtype the run finds -/

/-- One staging buffer of output window 5, through which its contents are stated (`View.read_writes_of_cover`: the
    choice does not matter). -/
abbrev VO0_5 : View sig .tc .vmem S256x256 .bf16 := (Memref.whole cc0_stg5_0 : Memref sig .tc .vmem S256x256 .bf16).view
/-- One staging buffer of output window 6, through which its contents are stated (`View.read_writes_of_cover`: the
    choice does not matter). -/
abbrev VO0_6 : View sig .tc .vmem S256x1792 .i8 := (Memref.whole cc0_stg6_0 : Memref sig .tc .vmem S256x1792 .i8).view
/-- One staging buffer of output window 7, through which its contents are stated (`View.read_writes_of_cover`: the
    choice does not matter). -/
abbrev VO0_7 : View sig .tc .vmem S256x224 .i8 := (Memref.whole cc0_stg7_0 : Memref sig .tc .vmem S256x224 .i8).view
/-- Each window's current staging memref at point `t`, spelled as the pipeline passes it (`bodyAt0`), and its wholeness. -/
abbrev ms0_0 (t : Fin cfg0.N) : Memref sig .tc .vmem S256x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3584x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S224x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S224x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1792 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x224 .i8 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x3584 .bf16 := Memref.whole cc0_scratch0

/-- The scratch `arg9` the kernel carries between points, as a view: what it holds is stated through it. -/
abbrev VS0_0 : View sig .tc .vmem S256x3584 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Run

end
-- ==== Proof.KI.RunA.lean ====
module

public import proofs.«01_k».proof.Proof.KI.Runs
public import proofs.«01_k».proof.Proof.Gen.KernelIdeal.Skeleton

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1848000 in
/-- At the first point: what the body's stores leave in each output's staging buffer and in the carried scratch, as pieces (last first),
    with the run of the body that finds them. -/
noncomputable def kernelRun0_A (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) :
    Σ' (L5 : List (View.Piece (Elt F) S256x256 .bf16)), Σ' (L6 : List (View.Piece (Elt F) S256x1792 .i8)), Σ' (L7 : List (View.Piece (Elt F) S256x224 .i8)), { LS0 : List (View.Piece (Elt F) S256x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_msfp12_gated_linear i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_msfp12_gated_linear_eq_skeleton]; unfold cc0_msfp12_gated_linear_skel
    simp only [k0_part123_eq_skeleton, k0_part121_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part122_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part124_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; iexact HS0

end Cert.KernelIdeal.Run

end
-- ==== Proof.KI.RunB.lean ====
module

public import proofs.«01_k».proof.Proof.KI.RunA

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- At every later point: what the body's one store leaves in the first output's staging buffer; the other two outputs and the scratch
    come back as they were. -/
noncomputable def kernelRun0_B (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : ¬cond0_0 i)
    (x0 : Vec F S256x3584 .bf16) (x1 : Vec F S3584x256 .i8) (x2 : Vec F S224x256 .i8) (x3 : Vec F S3584x256 .i8) (x4 : Vec F S224x256 .i8) (xo6 : Vec F S256x1792 .i8) (xo7 : Vec F S256x224 .i8) (xs0 : Vec F S256x3584 .bf16) :
    { L5 : List (View.Piece (Elt F) S256x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6 ∗ owns (c : Thread nD τ) arg8 fullShare xo7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xo6 ∗ owns (c : Thread nD τ) arg8 fullShare xo7 ∗ owns (c : Thread nD τ) arg9 fullShare xs0) -∗ K ⟨⟩))
          ⊢ wp frame (wpE (defs₀ (F := F)) Variants.none c none) E (cc0_msfp12_gated_linear i arg1 harg1 arg2 harg2 arg3 harg3 arg4 harg4 arg5 harg5 arg6 harg6 arg7 harg7 arg8 harg8 arg9 harg9) K } := by
  refine ⟨?_, fun E K => ?run⟩
  case run =>
    simp only [cc0_msfp12_gated_linear_eq_skeleton]; unfold cc0_msfp12_gated_linear_skel
    simp only [k0_part123_eq_skeleton, k0_part124_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    iexists _; isplitr; · ipureintro; exact harg9.read_unread _
    iexact HS0

end Cert.KernelIdeal.Run

end
-- ==== Proof.KI.Frame.lean ====
module

public import proofs.«01_k».proof.Proof.KI.RunB

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- These pieces cover the buffer. -/
theorem cover0_A_5 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) (y : S256x256.Idx) :
    ∃ pc ∈ (kernelRun0_A c i arg1 harg1 arg2 harg2 arg3 harg3 arg4 harg4 arg5 harg5 arg6 harg6 arg7 harg7 arg8 harg8 arg9 harg9 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4).1 S256x256.size (by sl_kernel_rfl) y

/-- What the first point leaves in output 5. -/
def out0_A_5 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) : Vec F S256x256 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 x0 x1 x2 x3 x4).1)

/-- These pieces cover the buffer. -/
theorem cover0_A_6 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) (y : S256x1792.Idx) :
    ∃ pc ∈ (kernelRun0_A c i arg1 harg1 arg2 harg2 arg3 harg3 arg4 harg4 arg5 harg5 arg6 harg6 arg7 harg7 arg8 harg8 arg9 harg9 hc0 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4).2.1 S256x128.size (by sl_kernel_rfl) y

/-- What the first point leaves in output 6. -/
def out0_A_6 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) : Vec F S256x1792 .i8 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3 x4).2.1)

/-- These pieces cover the buffer. -/
theorem cover0_A_7 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) (y : S256x224.Idx) :
    ∃ pc ∈ (kernelRun0_A c i arg1 harg1 arg2 harg2 arg3 harg3 arg4 harg4 arg5 harg5 arg6 harg6 arg7 harg7 arg8 harg8 arg9 harg9 hc0 x0 x1 x2 x3 x4).2.2.1, y ∈ pc.1.set :=
  View.cover_of_tiledBy (kernelRun0_A c i arg1 harg1 arg2 harg2 arg3 harg3 arg4 harg4 arg5 harg5 arg6 harg6 arg7 harg7 arg8 harg8 arg9 harg9 hc0 x0 x1 x2 x3 x4).2.2.1 ![256, 32] (by sl_kernel_rfl) y

/-- What the first point leaves in output 7. -/
def out0_A_7 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) : Vec F S256x224 .i8 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4).2.2.1)

/-- These pieces cover the buffer. -/
theorem scover0_A_0 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) (y : S256x3584.Idx) :
    ∃ pc ∈ (kernelRun0_A c i arg1 harg1 arg2 harg2 arg3 harg3 arg4 harg4 arg5 harg5 arg6 harg6 arg7 harg7 arg8 harg8 arg9 harg9 hc0 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4).2.2.2.1 S256x128.size (by sl_kernel_rfl) y

/-- What the first point leaves in scratch `arg9`. -/
def sout0_A_0 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) : Vec F S256x3584 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 x0 x1 x2 x3 x4).2.2.2.1)

/-- This piece covers the buffer. -/
theorem cover0_B_5 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : ¬cond0_0 i)
    (x0 : Vec F S256x3584 .bf16) (x1 : Vec F S3584x256 .i8) (x2 : Vec F S224x256 .i8) (x3 : Vec F S3584x256 .i8) (x4 : Vec F S224x256 .i8) (xo6 : Vec F S256x1792 .i8) (xo7 : Vec F S256x224 .i8) (xs0 : Vec F S256x3584 .bf16) (y : S256x256.Idx) :
    ∃ pc ∈ (kernelRun0_B c i arg1 harg1 arg2 harg2 arg3 harg3 arg4 harg4 arg5 harg5 arg6 harg6 arg7 harg7 arg8 harg8 arg9 harg9 hc0 x0 x1 x2 x3 x4 xo6 xo7 xs0).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 xo6 xo7 xs0).1 S256x256.size (by sl_kernel_rfl) y

/-- What a later point leaves in output 5. -/
def out0_B_5 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : ¬cond0_0 i)
    (x0 : Vec F S256x3584 .bf16) (x1 : Vec F S3584x256 .i8) (x2 : Vec F S224x256 .i8) (x3 : Vec F S3584x256 .i8) (x4 : Vec F S224x256 .i8) (xo6 : Vec F S256x1792 .i8) (xo7 : Vec F S256x224 .i8) (xs0 : Vec F S256x3584 .bf16) : Vec F S256x256 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 x0 x1 x2 x3 x4 xo6 xo7 xs0).1)

/-- The first point of the grid. -/
def pt0 : Fin cfg0.N := ⟨0, lt_of_lt_of_eq (by decide) N_0.symm⟩

/-- The scratch after the first point, and ever after. -/
def XOP (c : Dev nD) : Vec F S256x3584 .bf16 :=
  sout0_A_0 c (grid0.coords pt0) (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) (ms0_6 pt0) (hs0_6 pt0) (ms0_7 pt0) (hs0_7 pt0) scM0_0 (Memref.isWhole_whole _) ((hcond0_0 pt0).mpr (Nat.zero_mod _)) (iblk m c 0 pt0) (iblk m c 1 pt0) (iblk m c 2 pt0) (iblk m c 3 pt0) (iblk m c 4 pt0)

/-- The packed codes after the first point, and ever after. -/
def XP (c : Dev nD) : Vec F S256x1792 .i8 :=
  out0_A_6 c (grid0.coords pt0) (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) (ms0_6 pt0) (hs0_6 pt0) (ms0_7 pt0) (hs0_7 pt0) scM0_0 (Memref.isWhole_whole _) ((hcond0_0 pt0).mpr (Nat.zero_mod _)) (iblk m c 0 pt0) (iblk m c 1 pt0) (iblk m c 2 pt0) (iblk m c 3 pt0) (iblk m c 4 pt0)

/-- The exponents after the first point, and ever after. -/
def XE (c : Dev nD) : Vec F S256x224 .i8 :=
  out0_A_7 c (grid0.coords pt0) (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) (ms0_6 pt0) (hs0_6 pt0) (ms0_7 pt0) (hs0_7 pt0) scM0_0 (Memref.isWhole_whole _) ((hcond0_0 pt0).mpr (Nat.zero_mod _)) (iblk m c 0 pt0) (iblk m c 1 pt0) (iblk m c 2 pt0) (iblk m c 3 pt0) (iblk m c 4 pt0)

/-- The block of the first output a point computes. -/
def YB (c : Dev nD) (t : Fin cfg0.N) : Vec F S256x256 .bf16 :=
  if h0 : t.val % 74 = 0 then
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t)
  else
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (XP m c) (XE m c) (XOP m c)

theorem YB_A (c : Dev nD) (t : Fin cfg0.N) (h0 : t.val % 74 = 0) :
    YB m c t = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) := dif_pos h0

theorem YB_B (c : Dev nD) (t : Fin cfg0.N) (h0 : ¬t.val % 74 = 0) :
    YB m c t = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (XP m c) (XE m c) (XOP m c) := dif_neg h0

/-- The region's invariant before position `n`: before the first point the scratch at anything, afterwards at `XOP`. -/
def PhiS (c : Dev nD) : ℕ → sProp 𝕄
  | 0 => Pipeline.ΦA spec0 c
  | _ + 1 => iprop(iprop(owns (c : Thread nD τ) scM0_0 fullShare (XOP m c)) ∗ (∃ r, prngReg c r))

theorem PhiS_zero (c : Dev nD) (n : ℕ) (hz : n = 0) : PhiS m c n = Pipeline.ΦA spec0 c := by
  subst hz; rfl

theorem PhiS_succ (c : Dev nD) (n : ℕ) :
    PhiS m c (n + 1) = iprop(iprop(owns (c : Thread nD τ) scM0_0 fullShare (XOP m c)) ∗ (∃ r, prngReg c r)) := rfl

theorem PhiS_pos (c : Dev nD) (n : ℕ) (hz : n ≠ 0) :
    PhiS m c n = iprop(iprop(owns (c : Thread nD τ) scM0_0 fullShare (XOP m c)) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => YB m c t
    | ⟨6, _⟩ => XP m c
    | ⟨7, _⟩ => XE m c
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = YB m c t := by dsimp only [dats]
theorem after0_6 (c : Dev nD) (t : Fin cfg0.N) : (dats m 0 c).after 6 t = XP m c := by dsimp only [dats]
theorem after0_7 (c : Dev nD) (t : Fin cfg0.N) : (dats m 0 c).after 7 t = XE m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- After the first point output 6's buffer holds what the first point left. -/
theorem before0_6_B (c : Dev nD) (t : Fin cfg0.N) (h0 : ¬t.val % 74 = 0) (d) :
    (dats m 0 c).before 6 t d = XP m c := by
  rw [Dat.before_out_traj _ 6 rfl (fun _ _ => rfl) (fun t _ _ _ => by rw [after0_6, after0_6]) t.val t rfl d,
    if_neg (by rw [notFresh0_6_B t (fun h => h0 ((hcond0_0 t).mp h))]; exact Bool.false_ne_true)]
  dsimp only [dats]

/-- … and the body hands it back so. -/
theorem leaves0_6_B (c : Dev nD) (t : Fin cfg0.N) (h0 : ¬t.val % 74 = 0) :
    owns (c : Thread nD τ) (ms0_6 t) fullShare (XP m c) ⊢ (dats m 0 c).leavesExact 6 t := by
  unfold Dat.leavesExact; rw [idleAt0_6_B t (fun h => h0 ((hcond0_0 t).mp h))]
  split
  · split
    · simp only [before0_6_B m c t h0]
      iintro H; iexists (fun _ => default); iexact H
    · rw [after0_6]
  · rename_i h; exact absurd h (by simp)

/-- After the first point output 7's buffer holds what the first point left. -/
theorem before0_7_B (c : Dev nD) (t : Fin cfg0.N) (h0 : ¬t.val % 74 = 0) (d) :
    (dats m 0 c).before 7 t d = XE m c := by
  rw [Dat.before_out_traj _ 7 rfl (fun _ _ => rfl) (fun t _ _ _ => by rw [after0_7, after0_7]) t.val t rfl d,
    if_neg (by rw [notFresh0_7_B t (fun h => h0 ((hcond0_0 t).mp h))]; exact Bool.false_ne_true)]
  dsimp only [dats]

/-- … and the body hands it back so. -/
theorem leaves0_7_B (c : Dev nD) (t : Fin cfg0.N) (h0 : ¬t.val % 74 = 0) :
    owns (c : Thread nD τ) (ms0_7 t) fullShare (XE m c) ⊢ (dats m 0 c).leavesExact 7 t := by
  unfold Dat.leavesExact; rw [idleAt0_7_B t (fun h => h0 ((hcond0_0 t).mp h))]
  split
  · split
    · simp only [before0_7_B m c t h0]
      iintro H; iexists (fun _ => default); iexact H
    · rw [after0_7]
  · rename_i h; exact absurd h (by simp)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, PhiS_succ]
  have hN : t.val < 74 := lt_of_lt_of_eq t.isLt (show cfg0.N = 74 from N_0)
  by_cases h0 : t.val % 74 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6_A t ((hcond0_0 t).mpr h0)], after0_6]
    rw [show (dats m 0 c).leavesExact 7 t = owns (c : Thread nD τ) (ms0_7 t) fullShare ((dats m 0 c).after 7 t) from by
      unfold Dat.leavesExact; rw [liveAt0_7_A t ((hcond0_0 t).mpr h0)], after0_7]
    have hz : t.val = 0 := by omega
    obtain rfl : t = pt0 := Fin.ext hz
    rw [PhiS_castSucc m c pt0, PhiS_zero m c _ hz, PhiA0_eq]
    rw [YB_A m c pt0 h0]
    unfold out0_A_5 XP XE XOP out0_A_6 out0_A_7 sout0_A_0
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords pt0) _ _ _ _ _ _ _ _ _ _ _ _ _ _ _ _ _ _ ((hcond0_0 pt0).mpr h0) (iblk m c 0 pt0) (iblk m c 1 pt0) (iblk m c 2 pt0) (iblk m c 3 pt0) (iblk m c 4 pt0)).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    iintro ⟨H0, H1, H2, H3, H4, ⟨%e5, H5⟩, ⟨%e6, H6⟩, ⟨%e7, H7⟩, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _)
    unfold owns; iexists _; isplitr
    swap; · iexact H7
    ipureintro; exact View.read_writes_of_cover _ _ _ _ _ (cover0_A_7 c _ _ _ _ _ _ _ _ _ _ _ _ _ _ _ _ _ _ _ _ _ _ _ _ _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    have hz : t.val ≠ 0 := by omega
    rw [PhiS_castSucc m c t, PhiS_pos m c _ hz]
    rw [YB_B m c t h0]
    simp only [before0_6_B m c t h0, before0_7_B m c t h0]
    unfold out0_B_5
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) _ _ _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    iintro ⟨H0, H1, H2, H3, H4, ⟨%e5, H5⟩, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _ _)
    isplitl [H6]
    · iapply (leaves0_6_B m c t h0); iexact H6
    iapply (leaves0_7_B m c t h0); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 74 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Run

end
-- ==== Proof.Num.lean ====
module

public import Idealize.ShloMosaic.PureOps.Ideal
public import Idealize.ShloMosaic.PureOps.Ideal.Laws

@[expose] public section

noncomputable section

namespace Msfp

open Idealize.ShloMosaic

/-! The numbers behind the block format: powers of two, the exponent of a block, the codes. -/

/-- Two to an integer power. -/
def p2 (n : ℤ) : ℝ := (2 : ℝ) ^ n

theorem p2_pos (n : ℤ) : 0 < p2 n := zpow_pos (by norm_num) n

theorem p2_add (a b : ℤ) : p2 (a + b) = p2 a * p2 b := zpow_add₀ (by norm_num) a b

theorem p2_le {a b : ℤ} (h : a ≤ b) : p2 a ≤ p2 b := zpow_le_zpow_right₀ (by norm_num) h

/-- In a set of the first `N` numbers closed downwards, the count is where it ends. -/
theorem lt_count (p : ℕ → Prop) [DecidablePred p] (hp : ∀ j k, j ≤ k → p k → p j) (N k : ℕ) (hk : k < N) :
    k < ((Finset.range N).filter p).card ↔ p k := by
  constructor
  · intro h
    by_contra hn
    have hs : (Finset.range N).filter p ⊆ Finset.range k := fun j hj => by
      rw [Finset.mem_filter] at hj
      rw [Finset.mem_range]
      by_contra hjk
      exact hn (hp k j (by omega) hj.2)
    have := Finset.card_le_card hs
    rw [Finset.card_range] at this
    omega
  · intro h
    have hs : Finset.range (k + 1) ⊆ (Finset.range N).filter p := fun j hj => by
      rw [Finset.mem_range] at hj
      rw [Finset.mem_filter, Finset.mem_range]
      exact ⟨by omega, hp j k (by omega) h⟩
    have := Finset.card_le_card hs
    rw [Finset.card_range] at this
    omega

open Classical in
/-- How many of the powers of two from `2^-126` to `2^127` are at most `a`. -/
def Ef (a : EReal) : ℕ := ((Finset.range 254).filter fun k : ℕ => ((p2 ((k : ℤ) - 126) : ℝ) : EReal) ≤ a).card

theorem lt_Ef {a : EReal} {k : ℕ} (hk : k < 254) : k < Ef a ↔ ((p2 ((k : ℤ) - 126) : ℝ) : EReal) ≤ a := by
  classical
  unfold Ef
  convert lt_count (fun k : ℕ => ((p2 ((k : ℤ) - 126) : ℝ) : EReal) ≤ a) (fun j k h hk => le_trans (EReal.coe_le_coe_iff.2 (p2_le (by omega))) hk) 254 k hk

theorem Ef_le (a : EReal) : Ef a ≤ 254 := by
  classical
  unfold Ef
  calc _ ≤ (Finset.range 254).card := Finset.card_filter_le _ _
    _ = 254 := Finset.card_range _

theorem Ef_zero : Ef 0 = 0 := by
  by_contra h
  have h0 : 0 < Ef 0 := Nat.pos_of_ne_zero h
  rw [lt_Ef (by decide)] at h0
  have := EReal.coe_le_coe_iff.1 (h0.trans_eq EReal.coe_zero.symm)
  exact absurd this (not_le.2 (p2_pos _))

theorem two_le_Ef {a : EReal} (h : ((p2 (-125) : ℝ) : EReal) ≤ a) : 2 ≤ Ef a :=
  (lt_Ef (k := 1) (by decide)).2 (by simpa using h)

/-! ### What bit patterns denote -/

theorem fields32 : ∀ n : Fin 255, (BitVec.ofNat 32 (n.val * 8388608)).extractLsb' 31 1 = 0#1
    ∧ ((BitVec.ofNat 32 (n.val * 8388608)).extractLsb' 23 8).toNat = n.val ∧ ((BitVec.ofNat 32 (n.val * 8388608)).extractLsb' 0 23).toNat = 0 := by
  decide +kernel

theorem fields16 : ∀ n : Fin 255, (BitVec.ofNat 16 (n.val * 128)).extractLsb' 15 1 = 0#1
    ∧ ((BitVec.ofNat 16 (n.val * 128)).extractLsb' 7 8).toNat = n.val ∧ ((BitVec.ofNat 16 (n.val * 128)).extractLsb' 0 7).toNat = 0 := by
  decide +kernel

theorem ofBits_fld (n : ℕ) (h1 : 1 ≤ n) (h2 : n ≤ 254) :
    Ideal.ofBits .f32 (BitVec.ofNat 32 (n * 8388608)) = ((p2 ((n : ℤ) - 127) : ℝ) : EReal) := by
  obtain ⟨e1, e2, e3⟩ := fields32 ⟨n, by omega⟩
  dsimp only at e1 e2 e3
  unfold Ideal.ofBits Ideal.ieee
  simp only [e1, e2, e3]
  rw [if_neg (by omega), if_neg (by omega)]
  congr 1
  rw [show ((n : ℤ) - 127) = 23 + ((n : ℤ) - (2 ^ (8 - 1) - 1) - (23 : ℕ)) by norm_num, p2_add]
  unfold p2
  norm_num

theorem ofBits_fld_top : Ideal.ofBits .f32 (BitVec.ofNat 32 (255 * 8388608)) = ⊤ := by
  simp [Ideal.ofBits, Ideal.ieee]

theorem ofBits_bf (n : ℕ) (h1 : 1 ≤ n) (h2 : n ≤ 254) :
    Ideal.ofBits .bf16 (BitVec.ofNat 16 (n * 128)) = ((p2 ((n : ℤ) - 127) : ℝ) : EReal) := by
  obtain ⟨e1, e2, e3⟩ := fields16 ⟨n, by omega⟩
  dsimp only at e1 e2 e3
  unfold Ideal.ofBits Ideal.ieee
  simp only [e1, e2, e3]
  rw [if_neg (by omega), if_neg (by omega)]
  congr 1
  rw [show ((n : ℤ) - 127) = 7 + ((n : ℤ) - (2 ^ (8 - 1) - 1) - (7 : ℕ)) by norm_num, p2_add]
  unfold p2
  norm_num

theorem ofBits_bf_zero : Ideal.ofBits .bf16 (0x0000#16) = 0 := by
  simp [Ideal.ofBits, Ideal.ieee]

theorem ofBits_bf_quarter : Ideal.ofBits .bf16 (0x3E80#16) = ((p2 (-2) : ℝ) : EReal) := by
  have := ofBits_bf 125 (by decide) (by decide)
  exact this

theorem ofBits_512 : Ideal.ofBits .f32 (0x44000000#32) = ((p2 9 : ℝ) : EReal) := by
  have := ofBits_fld 136 (by decide) (by decide)
  exact this

/-! ### The search for the exponent -/

/-- A step of the search on the field's value. -/
def sstep (E c n : ℕ) : ℕ := if n + c ≤ E then n + c else n

theorem search (E : ℕ) (h : E ≤ 254) :
    sstep E 1 (sstep E 2 (sstep E 4 (sstep E 8 (sstep E 16 (sstep E 32 (sstep E 64 (sstep E 128 0))))))) = E := by
  have : ∀ E : Fin 255, sstep E.val 1 (sstep E.val 2 (sstep E.val 4 (sstep E.val 8 (sstep E.val 16 (sstep E.val 32 (sstep E.val 64 (sstep E.val 128 0))))))) = E.val := by
    decide +kernel
  exact this ⟨E, by omega⟩

theorem fld_le {a : EReal} (ha : a < ⊤) (n : ℕ) (h1 : 1 ≤ n) (h2 : n ≤ 255) :
    Ideal.ofBits .f32 (BitVec.ofNat 32 (n * 8388608)) ≤ a ↔ n ≤ Ef a := by
  by_cases h : n ≤ 254
  · rw [ofBits_fld n h1 h]
    obtain ⟨k, rfl⟩ : ∃ k, n = k + 1 := ⟨n - 1, by omega⟩
    rw [Nat.succ_le_iff, lt_Ef (by omega)]
    rw [show (((k + 1 : ℕ) : ℤ) - 127) = (k : ℤ) - 126 by push_cast; ring]
  · obtain rfl : n = 255 := by omega
    rw [ofBits_fld_top]
    have := Ef_le a
    constructor
    · intro hh; exact absurd (lt_of_le_of_lt hh ha) (lt_irrefl _)
    · intro hh; omega

/-! ### Codes -/

/-- The code of a number: to the nearest integer, ties to even, and into −7 … 7. -/
def code (r : ℝ) : ℤ := max (-7) (min 7 (Ideal.roundHalfEven r))

theorem code_ge (r : ℝ) : -7 ≤ code r := le_max_left _ _
theorem code_le (r : ℝ) : code r ≤ 7 := max_le (by norm_num) (min_le_left _ _)

theorem roundHalfEven_zero : Ideal.roundHalfEven 0 = 0 := by
  simp [Ideal.roundHalfEven]

theorem code_zero : code 0 = 0 := by
  simp [code, roundHalfEven_zero]

theorem coe_int_max (a b : ℤ) : max ((a : ℝ) : EReal) ((b : ℝ) : EReal) = (((max a b : ℤ) : ℝ) : EReal) := by
  rcases le_total a b with h | h
  · rw [max_eq_right h, max_eq_right (EReal.coe_le_coe_iff.2 (Int.cast_le.2 h))]
  · rw [max_eq_left h, max_eq_left (EReal.coe_le_coe_iff.2 (Int.cast_le.2 h))]

theorem coe_int_min (a b : ℤ) : min ((a : ℝ) : EReal) ((b : ℝ) : EReal) = (((min a b : ℤ) : ℝ) : EReal) := by
  rcases le_total a b with h | h
  · rw [min_eq_left h, min_eq_left (EReal.coe_le_coe_iff.2 (Int.cast_le.2 h))]
  · rw [min_eq_right h, min_eq_right (EReal.coe_le_coe_iff.2 (Int.cast_le.2 h))]

/-- Clipped from above and then from below. -/
theorem code_eq (r : ℝ) : max (min (Ideal.liftRound Ideal.roundHalfEven (r : EReal)) ((7 : ℤ) : ℝ)) (((-7 : ℤ) : ℝ) : EReal) = ((code r : ℝ) : EReal) := by
  show max (min (((Ideal.roundHalfEven r : ℤ) : ℝ) : EReal) _) _ = _
  rw [coe_int_min, coe_int_max]
  congr 2
  unfold code
  omega

/-- Clipped from below and then from above. -/
theorem code_eq' (r : ℝ) : min (((7 : ℤ) : ℝ) : EReal) (max (((-7 : ℤ) : ℝ) : EReal) (Ideal.liftRound Ideal.roundHalfEven (r : EReal))) = ((code r : ℝ) : EReal) := by
  show min _ (max _ (((Ideal.roundHalfEven r : ℤ) : ℝ) : EReal)) = _
  rw [coe_int_max, coe_int_min]
  congr 2
  unfold code
  omega

theorem fptosi_int (n : ℤ) (h1 : -2147483648 ≤ n) (h2 : n ≤ 2147483647) : Ideal.fptosi 32 ((n : ℝ) : EReal) = BitVec.ofInt 32 n := by
  unfold Ideal.fptosi
  congr 1
  show max _ (min _ (if (0 : ℝ) ≤ (n : ℝ) then ⌊(n : ℝ)⌋ else ⌈(n : ℝ)⌉)) = n
  rw [Int.floor_intCast, Int.ceil_intCast, ite_self]
  norm_num
  omega

theorem coe_mul' (a b : ℝ) : ((a : ℝ) : EReal) * ((b : ℝ) : EReal) = ((a * b : ℝ) : EReal) := (EReal.coe_mul a b).symm

theorem pow_two_int (n : ℤ) : Ideal.pow ((2 : ℝ) : EReal) ((n : ℝ) : EReal) = ((p2 n : ℝ) : EReal) := by
  show ((Real.rpow 2 (n : ℝ) : ℝ) : EReal) = _
  congr 1
  exact Real.rpow_intCast 2 n

end Msfp

end
-- ==== Proof.RI.Acts.lean ====
module

public import proofs.«01_k».proof.Proof.Gen.ReferenceIdeal.Read
public import proofs.«01_k».proof.Proof.Num
public import Idealize.ShloMosaic.Lib.Pointwise

@[expose] public section

set_option maxRecDepth 16384

noncomputable section

namespace Cert.ReferenceIdeal.Read

open Idealize.ShloMosaic Idealize.ShloMosaic.TcCoe
open Cert.ReferenceIdeal Cert.ReferenceIdeal.Gen
open Msfp

/-! What the reference computes from the activations. -/

abbrev X0 := (⟨S1x256x3584, .bf16⟩ : BufTy).Contents (Elt Ideal)

/-- Lane `j` of block `b`. -/
def lane (b : Fin 224) (j : Fin 16) : Fin 3584 := ⟨16 * b.val + j.val, by omega⟩

/-- The magnitude of an activation. -/
def mag (x0 : X0) (r : Fin 256) (k : Fin 3584) : EReal := max (x0 (ix3 0 r k) : EReal) (-(x0 (ix3 0 r k) : EReal))

/-- The largest magnitude of a block. -/
def rA (x0 : X0) (r : Fin 256) (b : Fin 224) : EReal := val_main_v3 (F := Ideal) x0 (ix3 0 r b)

theorem idx1_at (r : Fin 256) (b : Fin 224) (j : Fin 16) : idx_main_v1 (ix4 0 r b j) = ix3 0 r (lane b j) := by
  funext a; apply Fin.ext
  match a with
  | ⟨0, _⟩ => rfl
  | ⟨1, _⟩ => show (((0 * 256 + r.val) * 224 + b.val) * 16 + j.val) / 3584 % 256 = r.val; omega
  | ⟨2, _⟩ => show (((0 * 256 + r.val) * 224 + b.val) * 16 + j.val) % 3584 = 16 * b.val + j.val; omega

theorem v1_at (x0 : X0) (r : Fin 256) (b : Fin 224) (j : Fin 16) : (val_main_v1 (F := Ideal) x0 (ix4 0 r b j) : EReal) = x0 (ix3 0 r (lane b j)) := by
  rw [val_main_v1_apply, val_main_v0_apply, idx1_at]
  rfl

theorem v2_at (x0 : X0) (r : Fin 256) (b : Fin 224) (j : Fin 16) : (val_main_v2 (F := Ideal) x0 (ix4 0 r b j) : EReal) = mag x0 r (lane b j) := by
  rw [val_main_v2_apply]
  have h : ∀ a : Ideal .f32, (FloatOps.hostAbsf a : EReal) = max (a : EReal) (-(a : EReal)) := fun a => rfl
  rw [h, v1_at]
  rfl

theorem lift3 (h : S1x256x224x16.Reduces [3] S1x256x224) (r : Fin 256) (b : Fin 224) (j : Fin 16) : h.lift (ix3 0 r b) j = ix4 0 r b j := by
  funext c; apply Fin.ext
  fin_cases c <;> rfl

theorem bot_bits : Ideal.ofBits .f32 0xFF800000#32 = ⊥ := by simp [Ideal.ofBits, Ideal.ieee]

theorem fold_max_le (f : Fin 16 → EReal) (c : EReal) : Finset.univ.fold max ⊥ f ≤ c ↔ ∀ j, f j ≤ c := by
  rw [Finset.fold_max_le]
  simp

theorem rA_le (x0 : X0) (r : Fin 256) (b : Fin 224) (c : EReal) : rA x0 r b ≤ c ↔ ∀ j : Fin 16, mag x0 r (lane b j) ≤ c := by
  have h : S1x256x224x16.Reduces [3] S1x256x224 := by decide
  have e : rA x0 r b = (Finset.univ : Finset (Fin 16)).fold max ⊥ (fun j => mag x0 r (lane b j)) := by
    unfold rA val_main_v3
    refine (Host.reduce_eq_fold_single (α := Ideal .f32) (FloatOps.maximumf (F := Ideal) (φ := .f32)) (val_main_v2 (F := Ideal) x0) _ reducesTo_S1x256x224x16_S1x256x224_d3 h h_S_ _).trans ?_
    have hi : (val_main_cst (F := Ideal) (Shape.Idx.first h_S_) : EReal) = ⊥ := by rw [val_main_cst_apply]; exact bot_bits
    have hf : ((val_main_v2 (F := Ideal) x0) ∘ h.lift (ix3 0 r b)) = fun j : Fin 16 => (mag x0 r (lane b j) : Ideal .f32) :=
      funext fun j => by rw [Function.comp_apply, lift3 h r b j]; exact v2_at x0 r b j
    rw [hf]
    exact congrArg (fun i => Finset.fold max i (fun j : Fin 16 => mag x0 r (lane b j)) Finset.univ) hi
  rw [e, fold_max_le]

theorem two_bits : Ideal.ofBits .f32 0x40000000#32 = ((2 : ℝ) : EReal) := by simp [Ideal.ofBits, Ideal.ieee, -EReal.coe_mul]; norm_num
theorem seven_bits : Ideal.ofBits .f32 0x40E00000#32 = (((7 : ℤ) : ℝ) : EReal) := by simp [Ideal.ofBits, Ideal.ieee, -EReal.coe_mul]; norm_num
theorem mseven_bits : Ideal.ofBits .f32 0xC0E00000#32 = (((-7 : ℤ) : ℝ) : EReal) := by simp [Ideal.ofBits, Ideal.ieee, -EReal.coe_mul]; norm_num
theorem zero_bits : Ideal.ofBits .f32 0x00000000#32 = 0 := by simp [Ideal.ofBits, Ideal.ieee]

theorem pow_host (a b : Ideal .f32) : (FloatOps.hostPowf a b : EReal) = Ideal.pow a b := rfl
theorem sitofp_at (φ : FTy) (w : BitVec 32) : (FloatOps.sitofp (F := Ideal) φ w : EReal) = ((w.toInt : ℝ) : EReal) := rfl
theorem cmpf_at (p : CmpFPredicate) (a b : Ideal .f32) : FloatOps.cmpf p a b = Ideal.cmp p a b := rfl
theorem ofBits_at (b : BitVec 32) : (FloatOps.ofBits (F := Ideal) .f32 b : EReal) = Ideal.ofBits .f32 b := rfl

theorem k_table : ∀ k : Fin 254, (IntOp.addi (BitVec.ofNat 32 k.val) 4294967170#32).toInt = (k.val : ℤ) - 126 := by decide +kernel

theorem v14_at (k : Fin 254) : (val_main_v14 (F := Ideal) (ix1 k) : EReal) = ((p2 ((k.val : ℤ) - 126) : ℝ) : EReal) := by
  rw [val_main_v14_apply, val_main_v13_apply, val_main_cst_2_apply, val_main_v12_apply, val_main_v10_apply, val_main_v8_apply, val_main_v9_apply, val_main_c_1_apply,
    pow_host, ofBits_at, two_bits, sitofp_at, ix1_0, k_table, pow_two_int]

theorem idx17 (r : Fin 256) (b : Fin 224) (k : Fin 254) : idx_main_v15 (idx_main_v17 (ix5 0 r b 0 k)) = ix1 k := by
  funext a; match a with | ⟨0, _⟩ => rfl

theorem idx16 (r : Fin 256) (b : Fin 224) (k : Fin 254) : idx_main_v4 (idx_main_v11 (idx_main_v16 (ix5 0 r b 0 k))) = ix3 0 r b := by
  funext a; match a with
  | ⟨0, _⟩ => rfl
  | ⟨1, _⟩ => rfl
  | ⟨2, _⟩ => rfl

theorem v19_at (x0 : X0) (r : Fin 256) (b : Fin 224) (k : Fin 254) :
    val_main_v19 (F := Ideal) x0 (ix5 0 r b 0 k) = if ((p2 ((k.val : ℤ) - 126) : ℝ) : EReal) ≤ rA x0 r b then 1#32 else 0#32 := by
  rw [val_main_v19_apply, val_main_v18_apply, val_main_v16_apply, val_main_v11_apply, val_main_v4_apply, val_main_v17_apply, val_main_v15_apply, idx17, idx16, cmpf_at, v14_at]
  have e : ∀ a c : EReal, (Ideal.cmp .oge a c).setWidth 32 = if c ≤ a then 1#32 else 0#32 := fun a c => by
    by_cases h : c ≤ a
    · simp [Ideal.cmp, h]
    · simp [Ideal.cmp, h]
  exact e _ _

theorem lift4 (h : S1x256x224x1x254.Reduces [4] S1x256x224x1) (r : Fin 256) (b : Fin 224) (k : Fin 254) : h.lift (ix4 0 r b 0) k = ix5 0 r b 0 k := by
  funext c; apply Fin.ext
  fin_cases c <;> rfl

instance : Std.Commutative (IntOp.addi (w := 32)) := ⟨fun a b => BitVec.add_comm a b⟩
instance : Std.Associative (IntOp.addi (w := 32)) := ⟨fun a b c => BitVec.add_assoc a b c⟩

theorem fold_count (n : ℕ) (p : ℕ → Prop) [DecidablePred p] :
    (Finset.univ : Finset (Fin n)).fold (IntOp.addi (w := 32)) 0#32 (fun k => if p k.val then 1#32 else 0#32) = BitVec.ofNat 32 ((Finset.range n).filter p).card := by
  rw [Finset.card_filter, ← Fin.sum_univ_eq_sum_range]
  generalize (Finset.univ : Finset (Fin n)) = s
  induction s using Finset.induction_on with
  | empty => rfl
  | insert a s ha ih =>
    rw [Finset.fold_insert ha, ih, Finset.sum_insert ha, BitVec.ofNat_add]
    unfold IntOp.addi
    congr 1
    split_ifs <;> rfl

theorem v20_at (x0 : X0) (r : Fin 256) (b : Fin 224) : val_main_v20 (F := Ideal) x0 (ix4 0 r b 0) = BitVec.ofNat 32 (Ef (rA x0 r b)) := by
  have h : S1x256x224x1x254.Reduces [4] S1x256x224x1 := by decide
  unfold val_main_v20
  rw [Host.reduce_eq_fold_single IntOp.addi (val_main_v19 (F := Ideal) x0) _ reducesTo_S1x256x224x1x254_S1x256x224x1_d4 h h_S_, val_main_c_3_apply]
  have hf : ((val_main_v19 (F := Ideal) x0) ∘ h.lift (ix4 0 r b 0)) = fun k : Fin 254 => if ((p2 ((k.val : ℤ) - 126) : ℝ) : EReal) ≤ rA x0 r b then 1#32 else 0#32 :=
    funext fun k => by rw [Function.comp_apply, lift4 h r b k]; exact v19_at x0 r b k
  rw [hf]
  unfold Ef
  exact fold_count 254 (fun k => ((p2 ((k : ℤ) - 126) : ℝ) : EReal) ≤ rA x0 r b)

/-- The exponent of a block. -/
def eI (x0 : X0) (r : Fin 256) (b : Fin 224) : ℤ := if rA x0 r b = 0 then 0 else (Ef (rA x0 r b) : ℤ) - 126

theorem e_table : ∀ n : Fin 255, IntOp.addi (BitVec.ofNat 32 n.val) 4294967170#32 = BitVec.ofInt 32 ((n.val : ℤ) - 126) := by decide +kernel

theorem e_at (n : ℕ) (h : n < 255) : IntOp.addi (BitVec.ofNat 32 n) 4294967170#32 = BitVec.ofInt 32 ((n : ℤ) - 126) := e_table ⟨n, h⟩

theorem idx4 (r : Fin 256) (b : Fin 224) : idx_main_v4 (ix4 0 r b 0) = ix3 0 r b := by
  funext a; match a with
  | ⟨0, _⟩ => rfl
  | ⟨1, _⟩ => rfl
  | ⟨2, _⟩ => rfl

theorem v23_at (x0 : X0) (r : Fin 256) (b : Fin 224) : val_main_v23 (F := Ideal) x0 (ix4 0 r b 0) = BitVec.ofInt 32 (eI x0 r b) := by
  rw [val_main_v23_apply, val_main_v6_apply, val_main_v4_apply, val_main_v5_apply, val_main_cst_0_apply, val_main_v7_apply, val_main_c_apply, val_main_v22_apply, v20_at,
    val_main_v21_apply, val_main_c_4_apply, e_at (Ef (rA x0 r b)) (by have := Ef_le (rA x0 r b); omega), idx4, cmpf_at, ofBits_at, zero_bits]
  unfold eI
  have e : ∀ (a : EReal) (u v : BitVec 32), Scalar.select (Ideal.cmp .oeq a 0) u v = if a = 0 then u else v := fun a u v => by
    by_cases h : a = 0
    · simp only [Ideal.cmp, h, decide_true]; rfl
    · simp only [Ideal.cmp, h, decide_false]; rfl
  refine (e _ _ _).trans ?_
  unfold rA
  split_ifs <;> rfl

theorem eI_ge (x0 : X0) (r : Fin 256) (b : Fin 224) : -126 ≤ eI x0 r b ∧ eI x0 r b ≤ 128 := by
  have := Ef_le (rA x0 r b)
  unfold eI
  split_ifs <;> omega

theorem sub_table : ∀ n : Fin 255, (IntOp.subi 3#32 (BitVec.ofInt 32 ((n.val : ℤ) - 126))).toInt = 3 - ((n.val : ℤ) - 126)
    ∧ (IntOp.subi (BitVec.ofInt 32 ((n.val : ℤ) - 126)) 3#32) = BitVec.ofInt 32 (((n.val : ℤ) - 126) - 3)
    ∧ (BitVec.ofInt 32 (((n.val : ℤ) - 126) - 3)).toInt = ((n.val : ℤ) - 126) - 3 := by decide +kernel

theorem sub_at (e : ℤ) (h1 : -126 ≤ e) (h2 : e ≤ 128) : (IntOp.subi 3#32 (BitVec.ofInt 32 e)).toInt = 3 - e
    ∧ (IntOp.subi (BitVec.ofInt 32 e) 3#32) = BitVec.ofInt 32 (e - 3) ∧ (BitVec.ofInt 32 (e - 3)).toInt = e - 3 := by
  have h := sub_table ⟨(e + 126).toNat, by omega⟩
  dsimp only at h
  rwa [show (((e + 126).toNat : ℕ) : ℤ) - 126 = e by omega] at h

theorem v38_at (x0 : X0) (r : Fin 256) (b : Fin 224) : val_main_v38 (F := Ideal) x0 (ix4 0 r b 0) = BitVec.ofInt 32 (eI x0 r b - 3) := by
  rw [val_main_v38_apply, v23_at, val_main_v37_apply, val_main_c_9_apply, (sub_at _ (eI_ge x0 r b).1 (eI_ge x0 r b).2).2.1]

theorem idx39 (r : Fin 256) (b : Fin 224) : idx_main_v39 (ix3 0 r b) = ix4 0 r b 0 := by
  funext a; apply Fin.ext
  match a with
  | ⟨0, _⟩ => rfl
  | ⟨1, _⟩ => show ((0 * 256 + r.val) * 224 + b.val) / 224 % 256 = r.val; omega
  | ⟨2, _⟩ => show ((0 * 256 + r.val) * 224 + b.val) / 1 % 224 = b.val; omega
  | ⟨3, _⟩ => rfl

theorem v39_at (x0 : X0) (r : Fin 256) (b : Fin 224) : val_main_v39 (F := Ideal) x0 (ix3 0 r b) = BitVec.ofInt 32 (eI x0 r b - 3) := by
  rw [val_main_v39_apply, idx39, v38_at]

theorem v28_at (x0 : X0) (r : Fin 256) (b : Fin 224) : (val_main_v28 (F := Ideal) x0 (ix4 0 r b 0) : EReal) = ((p2 (3 - eI x0 r b) : ℝ) : EReal) := by
  rw [val_main_v28_apply, val_main_v27_apply, val_main_cst_6_apply, val_main_v26_apply, val_main_v25_apply, val_main_v24_apply, val_main_c_5_apply, v23_at,
    pow_host, ofBits_at, two_bits, sitofp_at, (sub_at _ (eI_ge x0 r b).1 (eI_ge x0 r b).2).1, pow_two_int]

theorem idx29 (r : Fin 256) (b : Fin 224) (j : Fin 16) : idx_main_v29 (ix4 0 r b j) = ix4 0 r b 0 := by
  funext a; match a with
  | ⟨0, _⟩ => rfl
  | ⟨1, _⟩ => rfl
  | ⟨2, _⟩ => rfl
  | ⟨3, _⟩ => rfl

/-- The activations are numbers. -/
def Fin0 (x0 : X0) : Prop := ∀ r k, mag x0 r k < ⊤

def xR (x0 : X0) (r : Fin 256) (k : Fin 3584) : ℝ := EReal.toReal (x0 (ix3 0 r k))

theorem coe_xR (x0 : X0) (hx : Fin0 x0) (r : Fin 256) (k : Fin 3584) : (x0 (ix3 0 r k) : EReal) = ((xR x0 r k : ℝ) : EReal) := by
  have h1 := hx r k
  unfold mag at h1
  have hb : (x0 (ix3 0 r k) : EReal) ≠ ⊥ := fun e => by
    rw [e] at h1
    exact absurd h1 (by simp)
  exact (EReal.coe_toReal (ne_of_lt (lt_of_le_of_lt (le_max_left _ _) h1)) hb).symm

/-- The code of an activation. -/
def rC (x0 : X0) (r : Fin 256) (b : Fin 224) (j : Fin 16) : ℤ := code (xR x0 r (lane b j) * p2 (3 - eI x0 r b))

theorem v35_at (x0 : X0) (hx : Fin0 x0) (r : Fin 256) (b : Fin 224) (j : Fin 16) :
    (val_main_v35 (F := Ideal) x0 (ix4 0 r b j) : EReal) = ((rC x0 r b j : ℝ) : EReal) := by
  rw [val_main_v35_apply, val_main_v33_apply, val_main_v31_apply, val_main_v30_apply, val_main_v29_apply, idx29, v28_at, v1_at, coe_xR x0 hx,
    val_main_v32_apply, val_main_cst_7_apply, val_main_v34_apply, val_main_cst_8_apply, ofBits_at, ofBits_at, seven_bits, mseven_bits]
  have e : ∀ a b c d : Ideal .f32, (FloatOps.maximumf (FloatOps.minimumf (FloatOps.hostUnary .roundeven (FloatOps.mulf a b)) c) d : EReal)
      = max (min (Ideal.liftRound Ideal.roundHalfEven ((a : EReal) * (b : EReal))) (c : EReal)) (d : EReal) := fun _ _ _ _ => rfl
  refine (e _ _ _ _).trans ?_
  rw [coe_mul']
  exact code_eq _

theorem v36_at (x0 : X0) (hx : Fin0 x0) (r : Fin 256) (b : Fin 224) (j : Fin 16) :
    val_main_v36 (F := Ideal) x0 (ix4 0 r b j) = BitVec.ofInt 32 (rC x0 r b j) := by
  have h1 : -7 ≤ rC x0 r b j := code_ge _
  have h2 : rC x0 r b j ≤ 7 := code_le _
  rw [val_main_v36_apply, v35_at x0 hx]
  exact fptosi_int _ (by omega) (by omega)

theorem code_table : ∀ n : Fin 15, (BitVec.ofInt 32 ((n.val : ℤ) - 7)).toInt = (n.val : ℤ) - 7 := by decide +kernel

theorem code_toInt (c : ℤ) (h1 : -7 ≤ c) (h2 : c ≤ 7) : (BitVec.ofInt 32 c).toInt = c := by
  have h := code_table ⟨(c + 7).toNat, by omega⟩
  dsimp only at h
  rwa [show (((c + 7).toNat : ℕ) : ℤ) - 7 = c by omega] at h

theorem v57_at (x0 : X0) (hx : Fin0 x0) (r : Fin 256) (b : Fin 224) (j : Fin 16) :
    (val_main_v57 (F := Ideal) x0 (ix4 0 r b j) : EReal) = ((rC x0 r b j : ℝ) : EReal) := by
  rw [val_main_v57_apply, val_main_v56_apply, v36_at x0 hx]
  have e : ∀ w : BitVec 32, (FloatOps.truncf .bf16 bitsLt_bf16_f32 (FloatOps.sitofp (F := Ideal) .f32 w) : EReal) = ((w.toInt : ℝ) : EReal) := fun _ => rfl
  refine (e _).trans ?_
  rw [code_toInt (rC x0 r b j) (code_ge _) (code_le _)]

end Cert.ReferenceIdeal.Read

end
-- ==== Proof.Eq.Pre.lean ====
module

public import proofs.«01_k».proof.Pre_normal_range
public import proofs.«01_k».proof.Proof.Gen.Pre_normal_range
public import proofs.«01_k».proof.Proof.RI.Acts
public import Idealize.ShloMosaic.Lib.ReduceAll

@[expose] public section

set_option maxRecDepth 16384

noncomputable section

namespace Cert.ReferenceIdeal.Read

open Idealize.ShloMosaic Idealize.ShloMosaic.TcCoe
open Cert.ReferenceIdeal Cert.ReferenceIdeal.Gen
open Msfp

/-! What the precondition says. -/

instance : Subsingleton Cert.Pre_normal_range.S_.Idx := ⟨fun a b => funext fun i => i.elim0⟩

abbrev XN := (⟨S3584x9472, .i8⟩ : BufTy).Contents (Elt Ideal)
abbrev XW := (⟨S224x18944, .i8⟩ : BufTy).Contents (Elt Ideal)

theorem min_bits : Ideal.ofBits .f32 0x01000000#32 = ((p2 (-125) : ℝ) : EReal) := by
  have h : Ideal.ofBits .f32 0x01000000#32 = (((2 : ℝ) ^ (-125 : ℤ) : ℝ) : EReal) := by
    simp [Ideal.ofBits, Ideal.ieee, -EReal.coe_mul]
    norm_num
  rw [h]
  rfl

theorem inf_bits : Ideal.ofBits .f32 0x7F800000#32 = ⊤ := by simp [Ideal.ofBits, Ideal.ieee]

theorem andi_split : ∀ a b : BitVec 1, IntOp.andi a b = 1#1 → a = 1#1 ∧ b = 1#1 := by decide

/-- The range test of one block. -/
theorem range_at (a : EReal) (h : IntOp.ori (Ideal.cmp .oeq a (Ideal.ofBits .f32 0x00000000#32)) (IntOp.andi (Ideal.cmp .oge a (Ideal.ofBits .f32 0x01000000#32)) (Ideal.cmp .olt a (Ideal.ofBits .f32 0x7F800000#32))) = 1#1) :
    a < ⊤ ∧ (a = 0 ∨ ((p2 (-125) : ℝ) : EReal) ≤ a) := by
  rw [zero_bits, min_bits, inf_bits] at h
  by_cases h0 : a = 0
  · subst h0
    exact ⟨EReal.zero_lt_top, Or.inl rfl⟩
  · by_cases h1 : ((p2 (-125) : ℝ) : EReal) ≤ a
    · by_cases h2 : a < ⊤
      · exact ⟨h2, Or.inr h1⟩
      · simp [Ideal.cmp, h0, h1, h2, IntOp.ori, IntOp.andi] at h
    · simp [Ideal.cmp, h0, h1, IntOp.ori, IntOp.andi] at h

theorem sge_table : ∀ n : Fin 256, IntOp.cmpi .sge (BitVec.ofNat 8 n.val) 130#8 = 1#1 → -126 ≤ (BitVec.ofNat 8 n.val).toInt := by decide +kernel

theorem sge_at (e : BitVec 8) (h : IntOp.cmpi .sge e 130#8 = 1#1) : -126 ≤ e.toInt := by
  have t := sge_table ⟨e.toNat, e.isLt⟩
  dsimp only at t
  rw [BitVec.ofNat_toNat, BitVec.setWidth_eq] at t
  exact t h

theorem range_vec {s : Shape} (a z lo hi : FVec Ideal s .f32) (i : s.Idx) (h : ori (cmpf .oeq a z) (andi (cmpf .oge a lo) (cmpf .olt a hi)) i = 1#1) :
    IntOp.ori (Ideal.cmp .oeq (a i) (z i)) (IntOp.andi (Ideal.cmp .oge (a i) (lo i)) (Ideal.cmp .olt (a i) (hi i))) = 1#1 := h

theorem fill_at {s t : Shape} (dims) (hb : s.BroadcastsInDim t dims) (w : BitVec 32) (i : t.Idx) :
    (broadcastInDim t dims hb (constant (F := Ideal) s .f32 w) i : EReal) = Ideal.ofBits .f32 w := rfl

theorem sge_vec {s u : Shape} (dims) (hb : s.BroadcastsInDim u dims) (a : IVec u 8) (w : BitVec 8) (i : u.Idx) (h : cmpi .sge a (broadcastInDim u dims hb (constantI s 8 w)) i = 1#1) :
    IntOp.cmpi .sge (a i) w = 1#1 := h

theorem andi_vec {s : Shape} (a b : IVec s 1) (i : s.Idx) (h : andi a b i = 1#1) : a i = 1#1 ∧ b i = 1#1 := andi_split _ _ h

theorem pre_unpack (x0 : X0) (q1 : XN) (e1 : XW) (q2 : XN) (e2 : XW)
    (h : @Cert.Pre_normal_range.fn Cert.Pre_normal_range.Gen.facts Ideal _ x0 q1 e1 q2 e2 = fun _ => 1#1) :
    (∀ r b, rA x0 r b < ⊤ ∧ (rA x0 r b = 0 ∨ ((p2 (-125) : ℝ) : EReal) ≤ rA x0 r b)) ∧ (∀ i, -126 ≤ (e1 i).toInt) ∧ (∀ i, -126 ≤ (e2 i).toInt) := by
  letI := Cert.Pre_normal_range.Gen.facts
  have h0 := congrFun h (Shape.Idx.first Cert.Pre_normal_range.Facts.h_S_)
  simp only [Cert.Pre_normal_range.fn, Cert.Pre_normal_range.fn_part1] at h0
  obtain ⟨h1, h4⟩ := andi_vec _ _ _ h0
  obtain ⟨h3, h2⟩ := andi_vec _ _ _ h1
  refine ⟨fun r b => ?_, fun i => ?_, fun i => ?_⟩
  · have k := range_vec _ _ _ _ _ (Host.reduce_andi_all _ _ _ _ _ h3 (ix3 0 r b))
    rw [fill_at, fill_at, fill_at] at k
    exact range_at _ k
  · exact sge_at _ (sge_vec _ _ _ _ _ (Host.reduce_andi_all _ _ _ _ _ h2 i))
  · exact sge_at _ (sge_vec _ _ _ _ _ (Host.reduce_andi_all _ _ _ _ _ h4 i))

theorem fin_of_pre (x0 : X0) (h : ∀ r b, rA x0 r b < ⊤) : Fin0 x0 := fun r k => by
  have e : lane ⟨k.val / 16, by omega⟩ ⟨k.val % 16, by omega⟩ = k := Fin.ext (by show 16 * (k.val / 16) + k.val % 16 = k.val; omega)
  have t := (rA_le x0 r ⟨k.val / 16, by omega⟩ _).1 le_rfl ⟨k.val % 16, by omega⟩
  rw [e] at t
  exact lt_of_le_of_lt t (h _ _)

end Cert.ReferenceIdeal.Read

end
-- ==== Proof.KI.Value.lean ====
module

public import proofs.«01_k».proof.Proof.KI.Frame
public import Idealize.ShloMosaic.Lib.Pipeline.Value

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v1_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v1_2) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The block and the place in it of an index of the first output. -/
abbrev blkOf (i : S256x18944.Idx) : Fin cfg0.N := ⟨(i 1).val / 256, lt_of_lt_of_eq (by have h : (i 1).val < 18944 := (i 1).isLt; omega) N_0.symm⟩
set_option backward.proofsInPublic true in
abbrev locOf (i : S256x18944.Idx) : S256x256.Idx := fun a => match a with
  | ⟨0, _⟩ => ⟨(i 0).val, (i 0).isLt⟩
  | ⟨1, _⟩ => ⟨(i 1).val % 256, Nat.mod_lt _ (by decide)⟩

/-- The first output after the run: block by block. -/
def G5 (c : Dev nD) : Buf (Elt F) ((c : Thread nD τ).loc main_v1_0) := fun i => YB m c (blkOf i) (locOf i)

/-- The printed index map, decided over the grid: output window 5's block indices stay in the box, and the block number
    read off them is the point's (`t`). -/
theorem idx_facts5 : ∀ t : Fin cfg0.N, 0 ≤ win0_5.index t (0 : Fin 2) ∧ win0_5.index t (0 : Fin 2) ≤ 0
    ∧ 0 ≤ win0_5.index t (1 : Fin 2) ∧ win0_5.index t (1 : Fin 2) ≤ 73
    ∧ 74 * (win0_5.index t (0 : Fin 2) - 0) + 1 * (win0_5.index t (1 : Fin 2) - 0) = t.val :=
  (by decide +kernel : ∀ t : Fin grid0.N, _)

/-- Every block of the box is SOME flushing point's: `onto5Pt`, the point that writes back the block at place `q` of the box. -/
abbrev onto5Pt (q0 : Fin 1) (q1 : Fin 74) : Fin grid0.N :=
  ⟨74 * q0.val + 1 * q1.val, lt_of_lt_of_eq (by omega) N_0.symm⟩
theorem idx_onto5 : ∀ (q0 : Fin 1) (q1 : Fin 74), ∃ t : Fin cfg0.N, (cfg0.win 5).flush t = true ∧ win0_5.index t = ![q0.val + 0, q1.val + 0] :=
  fun q0 q1 => ⟨onto5Pt q0 q1, (by decide +kernel : ∀ (q0 : Fin 1) (q1 : Fin 74), win0_5.flush (onto5Pt q0 q1) = true ∧ win0_5.index (onto5Pt q0 q1) = ![q0.val + 0, q1.val + 0]) q0 q1⟩

theorem flushed5_eq (c : Dev nD) (t : Fin cfg0.N) :
    (dats m 0 c).flushed 5 t = ((cfg0.win 5).blk t).view.read (Elt F) (G5 m c) := by
  show (cfg0.win 5).cut (grid0.coords t) ((dats m 0 c).after 5 t) = _
  rw [after0_5]
  obtain ⟨e0, e0', e1, e1', e2⟩ := idx_facts5 t
  funext y
  have hy0 : (y 0).val < 256 := (y 0).isLt
  have hy1 : (y 1).val < 256 := (y 1).isLt
  have hb0 : (((cfg0.win 5).blk t).view.emb y 0).val = win0_5.index t (0 : Fin 2) * 256 + 1 * (y 0).val := rfl
  have hb1 : (((cfg0.win 5).blk t).view.emb y 1).val = win0_5.index t (1 : Fin 2) * 256 + 1 * (y 1).val := rfl
  have hr : blkOf (((cfg0.win 5).blk t).view.emb y) = t := by
    apply Fin.ext
    show (((cfg0.win 5).blk t).view.emb y 1).val / 256 = _
    rw [hb1]; omega
  have hl : locOf (((cfg0.win 5).blk t).view.emb y) = (cfg0.win 5).xinj (grid0.coords t) y := by
    funext a; apply Fin.ext
    match a with
    | ⟨0, _⟩ => show (((cfg0.win 5).blk t).view.emb y 0).val = (y 0).val; rw [hb0]; omega
    | ⟨1, _⟩ => show (((cfg0.win 5).blk t).view.emb y 1).val % 256 = (y 1).val; rw [hb1]; omega
  show YB m c t ((cfg0.win 5).xinj (grid0.coords t) y) = G5 m c (((cfg0.win 5).blk t).view.emb y)
  unfold G5
  rw [hr, hl]

/-- An index of the array is in point `t`'s block iff each coordinate is in the block's range on its axis. -/
theorem mem_blk5 (t : Fin cfg0.N) (i : S256x18944.Idx) :
    i ∈ ((cfg0.win 5).blk t).view.set ↔ ∀ a : Fin 2, win0_5.index t a * S256x256.size a ≤ (i a).val ∧ (i a).val < win0_5.index t a * S256x256.size a + S256x256.size a := by
  show i ∈ ((View.whole main_v1_0).slice (win0_5.rect t)).set ↔ _
  rw [View.set_slice_whole, Rect.mem_set_unit]
  exact Iff.rfl

/-- THE COVERED INDICES: in some flushing point's block iff inside the box those blocks fill. -/
theorem covered_iff5 (i : S256x18944.Idx) :
    (∃ t : Fin cfg0.N, (cfg0.win 5).flush t = true ∧ i ∈ ((cfg0.win 5).blk t).view.set) ↔ 0 ≤ (i 0).val ∧ (i 0).val < 256 ∧ 0 ≤ (i 1).val ∧ (i 1).val < 18944 := by
  constructor
  · rintro ⟨t, -, hi⟩
    rw [mem_blk5] at hi
    have b0 : win0_5.index t (0 : Fin 2) * 256 ≤ (i 0).val ∧ (i 0).val < win0_5.index t (0 : Fin 2) * 256 + 256 := hi 0
    have b1 : win0_5.index t (1 : Fin 2) * 256 ≤ (i 1).val ∧ (i 1).val < win0_5.index t (1 : Fin 2) * 256 + 256 := hi 1
    obtain ⟨e0, e1, e2⟩ := idx_facts5 t
    omega
  · intro h
    have hi0 : (i 0).val < 256 := (i 0).isLt
    have hi1 : (i 1).val < 18944 := (i 1).isLt
    obtain ⟨t, hft, ht⟩ := idx_onto5 ⟨(i 0).val / 256 - 0, by omega⟩ ⟨(i 1).val / 256 - 0, by omega⟩
    have q0 : win0_5.index t (0 : Fin 2) = (i 0).val / 256 - 0 + 0 := congrFun ht 0
    have q1 : win0_5.index t (1 : Fin 2) = (i 1).val / 256 - 0 + 0 := congrFun ht 1
    refine ⟨t, hft, ?_⟩
    rw [mem_blk5]
    intro a
    match a with
    | ⟨0, _⟩ => show win0_5.index t (0 : Fin 2) * 256 ≤ (i 0).val ∧ (i 0).val < win0_5.index t (0 : Fin 2) * 256 + 256; omega
    | ⟨1, _⟩ => show win0_5.index t (1 : Fin 2) * 256 ≤ (i 1).val ∧ (i 1).val < win0_5.index t (1 : Fin 2) * 256 + 256; omega

theorem final5 (c : Dev nD) : (dats m 0 c).arrAt 5 cfg0.N = G5 m c :=
  (dats m 0 c).arrAt_eq_of_cover 5 _ (fun t _ => flushed5_eq m c t) (fun i => (covered_iff5 i).2 (by
    have h0 : (i 0).val < 256 := (i 0).isLt; have h1 : (i 1).val < 18944 := (i 1).isLt; omega))

/-- The printed index map, decided over the grid: output window 6's block indices stay in the box, and the block number
    read off them is the point's (`t / 74`). -/
theorem idx_facts6 : ∀ t : Fin cfg0.N, 0 ≤ win0_6.index t (0 : Fin 2) ∧ win0_6.index t (0 : Fin 2) ≤ 0
    ∧ 0 ≤ win0_6.index t (1 : Fin 2) ∧ win0_6.index t (1 : Fin 2) ≤ 0
    ∧ 1 * (win0_6.index t (0 : Fin 2) - 0) + 1 * (win0_6.index t (1 : Fin 2) - 0) = t.val / 74 :=
  (by decide +kernel : ∀ t : Fin grid0.N, _)

/-- Every block of the box is SOME flushing point's: `onto6Pt`, the point that writes back the block at place `q` of the box (the last point of its run). -/
abbrev onto6Pt (q0 : Fin 1) (q1 : Fin 1) : Fin grid0.N :=
  ⟨74 * (1 * q0.val + 1 * q1.val) + 73, lt_of_lt_of_eq (by omega) N_0.symm⟩
theorem idx_onto6 : ∀ (q0 : Fin 1) (q1 : Fin 1), ∃ t : Fin cfg0.N, (cfg0.win 6).flush t = true ∧ win0_6.index t = ![q0.val + 0, q1.val + 0] :=
  fun q0 q1 => ⟨onto6Pt q0 q1, (by decide +kernel : ∀ (q0 : Fin 1) (q1 : Fin 1), win0_6.flush (onto6Pt q0 q1) = true ∧ win0_6.index (onto6Pt q0 q1) = ![q0.val + 0, q1.val + 0]) q0 q1⟩

theorem flushed6_eq (c : Dev nD) (t : Fin cfg0.N) :
    (dats m 0 c).flushed 6 t = ((cfg0.win 6).blk t).view.read (Elt F) (XP m c : Buf (Elt F) ((c : Thread nD τ).loc main_v1_1)) := by
  show (cfg0.win 6).cut (grid0.coords t) ((dats m 0 c).after 6 t) = _
  rw [after0_6]
  obtain ⟨e0, e0', e1, e1', e2⟩ := idx_facts6 t
  funext y
  have hb0 : (((cfg0.win 6).blk t).view.emb y 0).val = win0_6.index t (0 : Fin 2) * 256 + 1 * (y 0).val := rfl
  have hb1 : (((cfg0.win 6).blk t).view.emb y 1).val = win0_6.index t (1 : Fin 2) * 1792 + 1 * (y 1).val := rfl
  have hl : ((cfg0.win 6).blk t).view.emb y = (cfg0.win 6).xinj (grid0.coords t) y := by
    funext a; apply Fin.ext
    match a with
    | ⟨0, _⟩ => show (((cfg0.win 6).blk t).view.emb y 0).val = (y 0).val; rw [hb0]; omega
    | ⟨1, _⟩ => show (((cfg0.win 6).blk t).view.emb y 1).val = (y 1).val; rw [hb1]; omega
  show XP m c ((cfg0.win 6).xinj (grid0.coords t) y) = XP m c (((cfg0.win 6).blk t).view.emb y)
  rw [hl]

/-- An index of the array is in point `t`'s block iff each coordinate is in the block's range on its axis. -/
theorem mem_blk6 (t : Fin cfg0.N) (i : S256x1792.Idx) :
    i ∈ ((cfg0.win 6).blk t).view.set ↔ ∀ a : Fin 2, win0_6.index t a * S256x1792.size a ≤ (i a).val ∧ (i a).val < win0_6.index t a * S256x1792.size a + S256x1792.size a := by
  show i ∈ ((View.whole main_v1_1).slice (win0_6.rect t)).set ↔ _
  rw [View.set_slice_whole, Rect.mem_set_unit]
  exact Iff.rfl

/-- THE COVERED INDICES: in some flushing point's block iff inside the box those blocks fill. -/
theorem covered_iff6 (i : S256x1792.Idx) :
    (∃ t : Fin cfg0.N, (cfg0.win 6).flush t = true ∧ i ∈ ((cfg0.win 6).blk t).view.set) ↔ 0 ≤ (i 0).val ∧ (i 0).val < 256 ∧ 0 ≤ (i 1).val ∧ (i 1).val < 1792 := by
  constructor
  · rintro ⟨t, -, hi⟩
    rw [mem_blk6] at hi
    have b0 : win0_6.index t (0 : Fin 2) * 256 ≤ (i 0).val ∧ (i 0).val < win0_6.index t (0 : Fin 2) * 256 + 256 := hi 0
    have b1 : win0_6.index t (1 : Fin 2) * 1792 ≤ (i 1).val ∧ (i 1).val < win0_6.index t (1 : Fin 2) * 1792 + 1792 := hi 1
    obtain ⟨e0, e1, e2⟩ := idx_facts6 t
    omega
  · intro h
    have hi0 : (i 0).val < 256 := (i 0).isLt
    have hi1 : (i 1).val < 1792 := (i 1).isLt
    obtain ⟨t, hft, ht⟩ := idx_onto6 ⟨(i 0).val / 256 - 0, by omega⟩ ⟨(i 1).val / 1792 - 0, by omega⟩
    have q0 : win0_6.index t (0 : Fin 2) = (i 0).val / 256 - 0 + 0 := congrFun ht 0
    have q1 : win0_6.index t (1 : Fin 2) = (i 1).val / 1792 - 0 + 0 := congrFun ht 1
    refine ⟨t, hft, ?_⟩
    rw [mem_blk6]
    intro a
    match a with
    | ⟨0, _⟩ => show win0_6.index t (0 : Fin 2) * 256 ≤ (i 0).val ∧ (i 0).val < win0_6.index t (0 : Fin 2) * 256 + 256; omega
    | ⟨1, _⟩ => show win0_6.index t (1 : Fin 2) * 1792 ≤ (i 1).val ∧ (i 1).val < win0_6.index t (1 : Fin 2) * 1792 + 1792; omega

theorem final6 (c : Dev nD) : (dats m 0 c).arrAt 6 cfg0.N = (XP m c : Buf (Elt F) ((c : Thread nD τ).loc main_v1_1)) :=
  (dats m 0 c).arrAt_eq_of_cover 6 _ (fun t _ => flushed6_eq m c t) (fun i => (covered_iff6 i).2 (by
    have h0 : (i 0).val < 256 := (i 0).isLt; have h1 : (i 1).val < 1792 := (i 1).isLt; omega))

/-- The printed index map, decided over the grid: output window 7's block indices stay in the box, and the block number
    read off them is the point's (`t / 74`). -/
theorem idx_facts7 : ∀ t : Fin cfg0.N, 0 ≤ win0_7.index t (0 : Fin 2) ∧ win0_7.index t (0 : Fin 2) ≤ 0
    ∧ 0 ≤ win0_7.index t (1 : Fin 2) ∧ win0_7.index t (1 : Fin 2) ≤ 0
    ∧ 1 * (win0_7.index t (0 : Fin 2) - 0) + 1 * (win0_7.index t (1 : Fin 2) - 0) = t.val / 74 :=
  (by decide +kernel : ∀ t : Fin grid0.N, _)

/-- Every block of the box is SOME flushing point's: `onto7Pt`, the point that writes back the block at place `q` of the box (the last point of its run). -/
abbrev onto7Pt (q0 : Fin 1) (q1 : Fin 1) : Fin grid0.N :=
  ⟨74 * (1 * q0.val + 1 * q1.val) + 73, lt_of_lt_of_eq (by omega) N_0.symm⟩
theorem idx_onto7 : ∀ (q0 : Fin 1) (q1 : Fin 1), ∃ t : Fin cfg0.N, (cfg0.win 7).flush t = true ∧ win0_7.index t = ![q0.val + 0, q1.val + 0] :=
  fun q0 q1 => ⟨onto7Pt q0 q1, (by decide +kernel : ∀ (q0 : Fin 1) (q1 : Fin 1), win0_7.flush (onto7Pt q0 q1) = true ∧ win0_7.index (onto7Pt q0 q1) = ![q0.val + 0, q1.val + 0]) q0 q1⟩

theorem flushed7_eq (c : Dev nD) (t : Fin cfg0.N) :
    (dats m 0 c).flushed 7 t = ((cfg0.win 7).blk t).view.read (Elt F) (XE m c : Buf (Elt F) ((c : Thread nD τ).loc main_v1_2)) := by
  show (cfg0.win 7).cut (grid0.coords t) ((dats m 0 c).after 7 t) = _
  rw [after0_7]
  obtain ⟨e0, e0', e1, e1', e2⟩ := idx_facts7 t
  funext y
  have hb0 : (((cfg0.win 7).blk t).view.emb y 0).val = win0_7.index t (0 : Fin 2) * 256 + 1 * (y 0).val := rfl
  have hb1 : (((cfg0.win 7).blk t).view.emb y 1).val = win0_7.index t (1 : Fin 2) * 224 + 1 * (y 1).val := rfl
  have hl : ((cfg0.win 7).blk t).view.emb y = (cfg0.win 7).xinj (grid0.coords t) y := by
    funext a; apply Fin.ext
    match a with
    | ⟨0, _⟩ => show (((cfg0.win 7).blk t).view.emb y 0).val = (y 0).val; rw [hb0]; omega
    | ⟨1, _⟩ => show (((cfg0.win 7).blk t).view.emb y 1).val = (y 1).val; rw [hb1]; omega
  show XE m c ((cfg0.win 7).xinj (grid0.coords t) y) = XE m c (((cfg0.win 7).blk t).view.emb y)
  rw [hl]

/-- An index of the array is in point `t`'s block iff each coordinate is in the block's range on its axis. -/
theorem mem_blk7 (t : Fin cfg0.N) (i : S256x224.Idx) :
    i ∈ ((cfg0.win 7).blk t).view.set ↔ ∀ a : Fin 2, win0_7.index t a * S256x224.size a ≤ (i a).val ∧ (i a).val < win0_7.index t a * S256x224.size a + S256x224.size a := by
  show i ∈ ((View.whole main_v1_2).slice (win0_7.rect t)).set ↔ _
  rw [View.set_slice_whole, Rect.mem_set_unit]
  exact Iff.rfl

/-- THE COVERED INDICES: in some flushing point's block iff inside the box those blocks fill. -/
theorem covered_iff7 (i : S256x224.Idx) :
    (∃ t : Fin cfg0.N, (cfg0.win 7).flush t = true ∧ i ∈ ((cfg0.win 7).blk t).view.set) ↔ 0 ≤ (i 0).val ∧ (i 0).val < 256 ∧ 0 ≤ (i 1).val ∧ (i 1).val < 224 := by
  constructor
  · rintro ⟨t, -, hi⟩
    rw [mem_blk7] at hi
    have b0 : win0_7.index t (0 : Fin 2) * 256 ≤ (i 0).val ∧ (i 0).val < win0_7.index t (0 : Fin 2) * 256 + 256 := hi 0
    have b1 : win0_7.index t (1 : Fin 2) * 224 ≤ (i 1).val ∧ (i 1).val < win0_7.index t (1 : Fin 2) * 224 + 224 := hi 1
    obtain ⟨e0, e1, e2⟩ := idx_facts7 t
    omega
  · intro h
    have hi0 : (i 0).val < 256 := (i 0).isLt
    have hi1 : (i 1).val < 224 := (i 1).isLt
    obtain ⟨t, hft, ht⟩ := idx_onto7 ⟨(i 0).val / 256 - 0, by omega⟩ ⟨(i 1).val / 224 - 0, by omega⟩
    have q0 : win0_7.index t (0 : Fin 2) = (i 0).val / 256 - 0 + 0 := congrFun ht 0
    have q1 : win0_7.index t (1 : Fin 2) = (i 1).val / 224 - 0 + 0 := congrFun ht 1
    refine ⟨t, hft, ?_⟩
    rw [mem_blk7]
    intro a
    match a with
    | ⟨0, _⟩ => show win0_7.index t (0 : Fin 2) * 256 ≤ (i 0).val ∧ (i 0).val < win0_7.index t (0 : Fin 2) * 256 + 256; omega
    | ⟨1, _⟩ => show win0_7.index t (1 : Fin 2) * 224 ≤ (i 1).val ∧ (i 1).val < win0_7.index t (1 : Fin 2) * 224 + 224; omega

theorem final7 (c : Dev nD) : (dats m 0 c).arrAt 7 cfg0.N = (XE m c : Buf (Elt F) ((c : Thread nD τ).loc main_v1_2)) :=
  (dats m 0 c).arrAt_eq_of_cover 7 _ (fun t _ => flushed7_eq m c t) (fun i => (covered_iff7 i).2 (by
    have h0 : (i 0).val < 256 := (i 0).isLt; have h1 : (i 1).val < 224 := (i 1).isLt; omega))

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v1_0) = G5 m c
      ∧ r.2.mem ((c : Thread nD τ).loc main_v1_1) = XP m c
      ∧ r.2.mem ((c : Thread nD τ).loc main_v1_2) = XE m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      kept_main_arg0 m r h c,
      kept_main_arg1 m r h c,
      kept_main_arg2 m r h c,
      kept_main_arg3 m r h c,
      kept_main_arg4 m r h c⟩)
    (run_main m ρ)

end Cert.KernelIdeal.Run

end
-- ==== Proof.KI.Tile.lean ====
module

public import proofs.«01_k».proof.Proof.KI.RunA
public import Idealize.ShloMosaic.Lib.WritesUnit

@[expose] public section

set_option maxRecDepth 16384

noncomputable section

namespace Cert.KernelIdeal.Run

open Idealize.ShloMosaic Idealize.ShloMosaic.TcCoe
open Cert.KernelIdeal Cert.KernelIdeal.Gen

variable {F : FTy → Type} [FloatOps F]

/-! What the kernel computes from one tile of 128 lanes, as functions of the tile. -/

/-- Lane indices wrapped as the gather wants them (a negative one counts from the end). -/
def wrapA (v : IVec S256x128 32) : IVec S256x128 32 :=
  shapeCast S256x128 (shapeCast S256x128x1 (select (cmpi .slt v (broadcast S256x128 0#32)) (addi v (broadcast S256x128 128#32)) v) shapeCasts_S256x128_S256x128x1) shapeCasts_S256x128x1_S256x128

def wrapB (v : IVec S128x128 32) : IVec S128x128 32 :=
  shapeCast S128x128 (shapeCast S128x128x1 (select (cmpi .slt v (broadcast S128x128 0#32)) (addi v (broadcast S128x128 128#32)) v) shapeCasts_S128x128_S128x128x1) shapeCasts_S128x128x1_S128x128

def laneA : IVec S256x128 32 := iota .tc S256x128 32 [1] iota_S256x128_d1_w32
def laneB : IVec S128x128 32 := iota .tc S128x128 32 [1] iota_S128x128_d1_w32

/-- One step of the maximum over a block: with the lane whose index differs by `d`. -/
def gstep (d : BitVec 32) (g : FVec F S256x128 .f32) : FVec F S256x128 .f32 :=
  maximumf g (dynamicGather 1 g (wrapA (xori laneA (broadcast S256x128 d))))

/-- The greatest magnitude of each block of sixteen lanes, in every lane of the block. -/
def tmax (x : FVec F S256x128 .bf16) : FVec F S256x128 .f32 :=
  gstep 8#32 (gstep 4#32 (gstep 2#32 (gstep 1#32 (absf (extf .f32 x bitsLt_bf16_f32)))))

/-- One step of the search for the exponent field. -/
def estep (c : BitVec 32) (g : FVec F S256x128 .f32) (e : IVec S256x128 32) : IVec S256x128 32 :=
  select (cmpf .ole (bitcastToFloat .f32 (addi e (broadcast S256x128 c))) g) (addi e (broadcast S256x128 c)) e

def ebits (g : FVec F S256x128 .f32) : IVec S256x128 32 :=
  estep 8388608#32 g (estep 16777216#32 g (estep 33554432#32 g (estep 67108864#32 g (estep 134217728#32 g (estep 268435456#32 g (estep 536870912#32 g (estep 1073741824#32 g (broadcast S256x128 0#32))))))))

/-- The exponent fields as half words, the rows in pairs. -/
def tew (x : FVec F S256x128 .bf16) : IVec S128x128 32 :=
  bitcast S128x128 32 (trunci 16 (shrui (ebits (tmax x)) (broadcast S256x128 16#32)) natLt_16_32) bitcasts_S256x128_w16_S128x128_w32

/-- The multiplier that brings a block to the code's range. -/
def tmul (x : FVec F S256x128 .bf16) : FVec F S256x128 .bf16 :=
  bitcastToFloat .bf16 (bitcast S256x128 16 (subi (broadcast S128x128 2147516416#32) (tew x)) bitcasts_S128x128_w32_S256x128_w16)

/-- The codes. -/
def tcode (x : FVec F S256x128 .bf16) : FVec F S256x128 .bf16 :=
  truncf .bf16 (minimumf (broadcast S256x128 (Scalar.sitofp .f32 7#32)) (maximumf (broadcast S256x128 (Scalar.sitofp .f32 4294967289#32))
    (roundeven (extf .f32 (select (cmpf .oeq x (broadcast S256x128 (Scalar.ofBits .bf16 0x0000#16))) (broadcast S256x128 (Scalar.ofBits .bf16 0x0000#16)) (mulf x (tmul x))) bitsLt_bf16_f32)))) bitsLt_bf16_f32

/-- What the products take: code times the block's scale. -/
def txop (x : FVec F S256x128 .bf16) : FVec F S256x128 .bf16 :=
  shapeCast S256x128 (mulf (tcode x) (mulf (bitcastToFloat .bf16 (bitcast S256x128 16 (tew x) bitcasts_S128x128_w32_S256x128_w16)) (broadcast S256x128 (Scalar.ofBits .bf16 0x3E80#16)))) shapeCasts_S256x128_S256x128

/-- The code's four bits above 128, as an integer. -/
def tnib (x : FVec F S256x128 .bf16) : IVec S256x128 32 :=
  fptosi 32 (addf (select (cmpf .olt (tcode x) (broadcast S256x128 (Scalar.ofBits .bf16 0x0000#16))) (addf (absf (tcode x)) (broadcast S256x128 (Scalar.ofBits .bf16 0x4100#16))) (absf (tcode x))) (broadcast S256x128 (Scalar.ofBits .bf16 0x4300#16)))

/-- The four bits as half words, the rows in pairs. -/
def tnw (x : FVec F S256x128 .bf16) : IVec S128x128 32 :=
  andi (bitcast S128x128 32 (trunci 16 (tnib x) natLt_16_32) bitcasts_S256x128_w16_S128x128_w32) (broadcast S128x128 983055#32)

/-- Each lane's bits with those of the odd lane of its pair above them, gathered at twice the lane. -/
def tpk (x : FVec F S256x128 .bf16) : IVec S128x128 32 :=
  dynamicGather 1 (ori (tnw x) (shli (dynamicGather 1 (tnw x) (wrapB (ori laneB (broadcast S128x128 1#32)))) (broadcast S128x128 4#32)))
    (wrapB (andi (muli laneB (broadcast S128x128 2#32)) (broadcast S128x128 127#32)))

/-- The packed bytes of two neighbouring tiles. -/
def txp (x y : FVec F S256x128 .bf16) : IVec S256x128 8 :=
  trunci 8 (bitcast S256x128 16 (select (cmpi .slt laneB (broadcast S128x128 64#32)) (tpk x) (tpk y)) bitcasts_S128x128_w32_S256x128_w16) natLt_8_16

/-- The half words at sixteen times the lane's last three bits. -/
def tgat (x : FVec F S256x128 .bf16) : IVec S128x128 32 :=
  dynamicGather 1 (tew x) (wrapB (muli (andi laneB (broadcast S128x128 7#32)) (broadcast S128x128 16#32)))

/-- The lane over eight, rounded down. -/
def lane8 : IVec S128x128 32 :=
  select (andi (cmpi .ne (subi (extui 32 (cmpi .sgt laneB (broadcast S128x128 0#32)) natLt_1_32) (extui 32 (cmpi .slt laneB (broadcast S128x128 0#32)) natLt_1_32))
      (broadcast S128x128 (Scalar.subi (Scalar.extui (Scalar.cmpi .sgt 8#32 0#32)) (Scalar.extui (Scalar.cmpi .slt 8#32 0#32)))))
      (cmpi .ne (remsi laneB (broadcast S128x128 8#32)) (broadcast S128x128 0#32)))
    (subi (divsi laneB (broadcast S128x128 8#32)) (broadcast S128x128 1#32)) (divsi laneB (broadcast S128x128 8#32))

/-- The lanes a tile owns taken from it, the others as before. -/
def tsel (c : BitVec 32) (x : FVec F S256x128 .bf16) (a : IVec S128x128 32) : IVec S128x128 32 :=
  select (cmpi .eq lane8 (broadcast S128x128 c)) (tgat x) a

/-- The exponent bytes. -/
def txe (a : IVec S128x128 32) : IVec S256x128 8 :=
  trunci 8 (select (cmpi .eq (bitcast S256x128 16 (shrui a (broadcast S128x128 7#32)) bitcasts_S128x128_w32_S256x128_w16) (broadcast S256x128 0#16)) (broadcast S256x128 65533#16)
    (subi (bitcast S256x128 16 (shrui a (broadcast S128x128 7#32)) bitcasts_S128x128_w32_S256x128_w16) (broadcast S256x128 129#16))) natLt_8_16

def inbS (k : ℕ) (h : k < 28) : ∀ a : Fin 2, (![0, 128 * k] : Fin 2 → ℕ) a + S256x128.size a ≤ S256x3584.size a := fun a => by
  fin_cases a
  · show 0 + 256 ≤ 256; omega
  · show 128 * k + 128 ≤ 3584; omega

/-- Tile `k` of the staged input, as the kernel loads it. -/
def tl (arg1 : Memref sig .tc .vmem S256x3584 .bf16) (harg1 : arg1.IsWhole) (x0 : Vec F S256x3584 .bf16) (k : ℕ) (h : k < 28) : FVec F S256x128 .bf16 :=
  shapeCast S256x128 (View.readAt (Elt F) arg1.view (Rect.unit (s := S256x3584) ![0, 128 * k] S256x128.size (inbS k h)).toLoadRect (harg1.unread x0)) shapeCasts_S256x128_S256x128

/-- The stores of the operand, in order. -/
def xopPieces (arg1 : Memref sig .tc .vmem S256x3584 .bf16) (harg1 : arg1.IsWhole) (x0 : Vec F S256x3584 .bf16) : List (View.Piece (Elt F) S256x3584 .bf16) :=
  View.tilePieces (Val := Elt F) (s := S256x3584) (e := .bf16) (NT := 28) S256x128.size (fun i => ![0, 128 * i.val]) (fun i => inbS i.val i.isLt)
    (fun i => txop (tl arg1 harg1 x0 i.val i.isLt)) 28 (by decide)

set_option maxHeartbeats 4000000 in
theorem xop_pieces (c : Dev nD) (arg1 : Memref sig .tc .vmem S256x3584 .bf16) (harg1 : arg1.IsWhole) (x0 : Vec F S256x3584 .bf16) :
    kernelRun0_A.sl.HS0_28 c arg1 harg1 x0 = xopPieces arg1 harg1 x0 := rfl

def inbP (k : ℕ) (h : k < 14) : ∀ a : Fin 2, (![0, 128 * k] : Fin 2 → ℕ) a + S256x128.size a ≤ S256x1792.size a := fun a => by
  fin_cases a
  · show 0 + 256 ≤ 256; omega
  · show 128 * k + 128 ≤ 1792; omega

/-- The stores of the packed codes, in order. -/
def xpPieces (arg1 : Memref sig .tc .vmem S256x3584 .bf16) (harg1 : arg1.IsWhole) (x0 : Vec F S256x3584 .bf16) : List (View.Piece (Elt F) S256x1792 .i8) :=
  View.tilePieces (Val := Elt F) (s := S256x1792) (e := .i8) (NT := 14) S256x128.size (fun i => ![0, 128 * i.val]) (fun i => inbP i.val i.isLt)
    (fun i => txp (tl arg1 harg1 x0 (2 * i.val) (by omega)) (tl arg1 harg1 x0 (2 * i.val + 1) (by omega))) 14 (by decide)

/-- The exponent words gathered over the first `n` of the tiles from `b` on. -/
def eacc (arg1 : Memref sig .tc .vmem S256x3584 .bf16) (harg1 : arg1.IsWhole) (x0 : Vec F S256x3584 .bf16) (b : ℕ) : (n : ℕ) → b + n ≤ 28 → IVec S128x128 32
  | 0, _ => broadcast S128x128 0#32
  | n + 1, h => tsel (BitVec.ofNat 32 n) (tl arg1 harg1 x0 (b + n) (by omega)) (eacc arg1 harg1 x0 b n (by omega))

set_option maxHeartbeats 4000000 in
theorem xp_pieces (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) :
    (kernelRun0_A c i arg1 harg1 arg2 harg2 arg3 harg3 arg4 harg4 arg5 harg5 arg6 harg6 arg7 harg7 arg8 harg8 arg9 harg9 hc0 x0 x1 x2 x3 x4).2.1 = xpPieces arg1 harg1 x0 := rfl

set_option maxHeartbeats 4000000 in
theorem xe_pieces (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) :
    (kernelRun0_A c i arg1 harg1 arg2 harg2 arg3 harg3 arg4 harg4 arg5 harg5 arg6 harg6 arg7 harg7 arg8 harg8 arg9 harg9 hc0 x0 x1 x2 x3 x4).2.2.1
      = [⟨Rect.unit (s := S256x224) ![0, 128] ![256, 96] inb_S256x224_S256x96_0_128, extractStridedSlice S256x96 ![0, 0] (txe (eacc arg1 harg1 x0 16 12 (by decide))) slices_S256x128_o0_0_S256x96⟩,
         ⟨Rect.unit (s := S256x224) ![0, 0] ![256, 128] inb_S256x224_S256x128_0_0, txe (eacc arg1 harg1 x0 0 16 (by decide))⟩] := rfl

end Cert.KernelIdeal.Run

end
-- ==== Proof.KI.Reads.lean ====
module

public import proofs.«01_k».proof.Proof.KI.Frame
public import proofs.«01_k».proof.Proof.KI.Tile
public import Idealize.ShloMosaic.Lib.Pointwise
public import Idealize.ShloMosaic.Lib.WholeRead
public import Idealize.ShloMosaic.Lib.WritesUnit
public import Idealize.ShloMosaic.Lib.VecWindow

@[expose] public section

set_option maxRecDepth 16384

noncomputable section

namespace Cert.KernelIdeal.Run

open Idealize.ShloMosaic Idealize.ShloMosaic.TcCoe
open Cert.KernelIdeal Cert.KernelIdeal.Gen

variable {F : FTy → Type} [FloatOps F]

/-! What a point of the grid leaves, in terms of its blocks. -/

/-- By how many bits a point shifts the packed weights: none in the first half of the grid, four in the second. -/
def shf (i : grid0.Coords) : BitVec 32 :=
  Scalar.muli (Scalar.select (Scalar.andi (Scalar.cmpi .ne (Scalar.subi (Scalar.extui (Scalar.cmpi .sgt (BitVec.ofNat 32 (i 0).val) 0#32)) (Scalar.extui (Scalar.cmpi .slt (BitVec.ofNat 32 (i 0).val) 0#32)))
      (Scalar.subi (Scalar.extui (Scalar.cmpi .sgt 37#32 0#32)) (Scalar.extui (Scalar.cmpi .slt 37#32 0#32)))) (Scalar.cmpi .ne (Scalar.remsi (BitVec.ofNat 32 (i 0).val) 37#32) 0#32))
    (Scalar.subi (Scalar.divsi (BitVec.ofNat 32 (i 0).val) 37#32) 1#32) (Scalar.divsi (BitVec.ofNat 32 (i 0).val) 37#32)) 4#32

/-- One of the two products of a point. -/
def hblk (s : BitVec 32) (xop : FVec F S256x3584 .bf16) (q : Vec F S3584x256 .i8) (e : Vec F S224x256 .i8) : FVec F S256x256 .f32 :=
  mulf (matmul dot_S256x3584_S3584x256_S256x256_1_0_0_1_n_n none xop (k0_pay438 s q e) (constant S256x256 .f32 0x00000000#32)) (broadcast S256x256 (Scalar.ofBits .f32 0x44000000#32))

/-- The block of the first result a point computes. -/
def yblk (s : BitVec 32) (xop : FVec F S256x3584 .bf16) (q1 : Vec F S3584x256 .i8) (e1 : Vec F S224x256 .i8) (q2 : Vec F S3584x256 .i8) (e2 : Vec F S224x256 .i8) : FVec F S256x256 .bf16 :=
  truncf .bf16 (mulf (mulf (hblk s xop q1 e1) (logistic (hblk s xop q1 e1))) (hblk s xop q2 e2)) bitsLt_bf16_f32

theorem yblk_eq (i : grid0.Coords) (xop : FVec F S256x3584 .bf16) (q1 : Vec F S3584x256 .i8) (e1 : Vec F S224x256 .i8) (q2 : Vec F S3584x256 .i8) (e2 : Vec F S224x256 .i8) :
    k0_pay1 (k0_pay437 (k0_pay434 i q1) (k0_pay435 e1) k0_pay436 xop) xop (k0_pay438 (shf i) q2 e2) = yblk (shf i) xop q1 e1 q2 e2 := rfl

/-- A load of a whole buffer reads what it holds. -/
theorem load_whole {sp : Space} {s : Shape} {e : EltTy} (a : Memref sig .tc sp s e) (ha : a.IsWhole) (x : Vec F s e) {off : Fin s.rank → ℕ} (inb : ∀ a, off a + s.size a ≤ s.size a) :
    View.readAt (Elt F) a.view (Rect.unit off s.size inb).toLoadRect (ha.unread x) = x := by
  rw [View.readAt_full]
  exact ha.read_unread x

theorem load_cov {sp : Space} {s : Shape} {e : EltTy} (v : View sig .tc sp s e) (L : List (View.Piece (Elt F) s e)) {off : Fin s.rank → ℕ} (inb : ∀ a, off a + s.size a ≤ s.size a) :
    v.readCov L (Rect.unit off s.size inb).toLoadRect = View.canon L := by
  unfold View.readCov
  rw [View.readAt_full, View.read_writes_junk_eq_canon]

theorem fill_one {sp : Space} {s : Shape} {e : EltTy} (v : View sig .tc sp s e) {off : Fin s.rank → ℕ} (inb : ∀ a, off a + s.size a ≤ s.size a) (w : (Rect.unit off s.size inb).shape.Idx → Elt F e) :
    v.read (Elt F) (v.writes (Elt F) v.junk [⟨Rect.unit off s.size inb, w⟩]) = w := by
  rw [View.read_writes_full]

set_option maxHeartbeats 4000000 in
theorem outA5 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : cond0_0 i)
    (x0 : Vec F S256x3584 .bf16) (x1 : Vec F S3584x256 .i8) (x2 : Vec F S224x256 .i8) (x3 : Vec F S3584x256 .i8) (x4 : Vec F S224x256 .i8) :
    out0_A_5 c i arg1 harg1 arg2 harg2 arg3 harg3 arg4 harg4 arg5 harg5 arg6 harg6 arg7 harg7 arg8 harg8 arg9 harg9 hc0 x0 x1 x2 x3 x4
      = yblk (shf i) (View.canon (xopPieces arg1 harg1 x0)) x1 x2 x3 x4 := by
  have e : out0_A_5 c i arg1 harg1 arg2 harg2 arg3 harg3 arg4 harg4 arg5 harg5 arg6 harg6 arg7 harg7 arg8 harg8 arg9 harg9 hc0 x0 x1 x2 x3 x4
      = VO0_5.read (Elt F) (VO0_5.writes (Elt F) VO0_5.junk [⟨Rect.unit (s := S256x256) ![0, 0] S256x256.size inb_S256x256_S256x256_0_0,
        k0_pay1 (k0_pay437 (k0_pay434 i (View.readAt (Elt F) arg2.view (Rect.unit (s := S3584x256) ![0, 0] S3584x256.size inb_S3584x256_S3584x256_0_0).toLoadRect (harg2.unread x1)))
            (k0_pay435 (View.readAt (Elt F) arg3.view (Rect.unit (s := S224x256) ![0, 0] S224x256.size inb_S224x256_S224x256_0_0).toLoadRect (harg3.unread x2))) k0_pay436
            (arg9.view.readCov (kernelRun0_A.sl.HS0_28 c arg1 harg1 x0) (Rect.unit (s := S256x3584) ![0, 0] S256x3584.size inb_S256x3584_S256x3584_0_0).toLoadRect))
          (arg9.view.readCov (kernelRun0_A.sl.HS0_28 c arg1 harg1 x0) (Rect.unit (s := S256x3584) ![0, 0] S256x3584.size inb_S256x3584_S256x3584_0_0).toLoadRect)
          (k0_pay438 (shf i) (View.readAt (Elt F) arg4.view (Rect.unit (s := S3584x256) ![0, 0] S3584x256.size inb_S3584x256_S3584x256_0_0).toLoadRect (harg4.unread x3))
            (View.readAt (Elt F) arg5.view (Rect.unit (s := S224x256) ![0, 0] S224x256.size inb_S224x256_S224x256_0_0).toLoadRect (harg5.unread x4)))⟩]) := rfl
  rw [e, fill_one, load_whole, load_whole, load_whole, load_whole, load_cov, xop_pieces, yblk_eq]

set_option maxHeartbeats 4000000 in
theorem outB5 (c : Dev nD) (i : grid0.Coords) (arg1 : Memref sig .tc .vmem S256x3584 .bf16) (harg1 : arg1.IsWhole) (arg2 : Memref sig .tc .vmem S3584x256 .i8) (harg2 : arg2.IsWhole) (arg3 : Memref sig .tc .vmem S224x256 .i8) (harg3 : arg3.IsWhole) (arg4 : Memref sig .tc .vmem S3584x256 .i8) (harg4 : arg4.IsWhole) (arg5 : Memref sig .tc .vmem S224x256 .i8) (harg5 : arg5.IsWhole) (arg6 : Memref sig .tc .vmem S256x256 .bf16) (harg6 : arg6.IsWhole) (arg7 : Memref sig .tc .vmem S256x1792 .i8) (harg7 : arg7.IsWhole) (arg8 : Memref sig .tc .vmem S256x224 .i8) (harg8 : arg8.IsWhole) (arg9 : Memref sig .tc .vmem S256x3584 .bf16) (harg9 : arg9.IsWhole) (hc0 : ¬cond0_0 i)
    (x0 : Vec F S256x3584 .bf16) (x1 : Vec F S3584x256 .i8) (x2 : Vec F S224x256 .i8) (x3 : Vec F S3584x256 .i8) (x4 : Vec F S224x256 .i8) (xo6 : Vec F S256x1792 .i8) (xo7 : Vec F S256x224 .i8) (xs0 : Vec F S256x3584 .bf16) :
    out0_B_5 c i arg1 harg1 arg2 harg2 arg3 harg3 arg4 harg4 arg5 harg5 arg6 harg6 arg7 harg7 arg8 harg8 arg9 harg9 hc0 x0 x1 x2 x3 x4 xo6 xo7 xs0
      = yblk (shf i) xs0 x1 x2 x3 x4 := by
  have e : out0_B_5 c i arg1 harg1 arg2 harg2 arg3 harg3 arg4 harg4 arg5 harg5 arg6 harg6 arg7 harg7 arg8 harg8 arg9 harg9 hc0 x0 x1 x2 x3 x4 xo6 xo7 xs0
      = VO0_5.read (Elt F) (VO0_5.writes (Elt F) VO0_5.junk [⟨Rect.unit (s := S256x256) ![0, 0] S256x256.size inb_S256x256_S256x256_0_0,
        k0_pay1 (k0_pay437 (k0_pay434 i (View.readAt (Elt F) arg2.view (Rect.unit (s := S3584x256) ![0, 0] S3584x256.size inb_S3584x256_S3584x256_0_0).toLoadRect (harg2.unread x1)))
            (k0_pay435 (View.readAt (Elt F) arg3.view (Rect.unit (s := S224x256) ![0, 0] S224x256.size inb_S224x256_S224x256_0_0).toLoadRect (harg3.unread x2))) k0_pay436
            (View.readAt (Elt F) arg9.view (Rect.unit (s := S256x3584) ![0, 0] S256x3584.size inb_S256x3584_S256x3584_0_0).toLoadRect (harg9.unread xs0)))
          (View.readAt (Elt F) arg9.view (Rect.unit (s := S256x3584) ![0, 0] S256x3584.size inb_S256x3584_S256x3584_0_0).toLoadRect (harg9.unread xs0))
          (k0_pay438 (shf i) (View.readAt (Elt F) arg4.view (Rect.unit (s := S3584x256) ![0, 0] S3584x256.size inb_S3584x256_S3584x256_0_0).toLoadRect (harg4.unread x3))
            (View.readAt (Elt F) arg5.view (Rect.unit (s := S224x256) ![0, 0] S224x256.size inb_S224x256_S224x256_0_0).toLoadRect (harg5.unread x4)))⟩]) := rfl
  rw [e, fill_one, load_whole, load_whole, load_whole, load_whole, load_whole, yblk_eq]

variable (m : (ℓ : Loc nD τ sig) → Buf (Elt F) ℓ)

/-- The operand the first point leaves in the scratch. -/
theorem XOP_eq (c : Dev nD) : XOP m c = View.canon (xopPieces (ms0_0 pt0) (hs0_0 pt0) (iblk m c 0 pt0)) := by
  unfold XOP sout0_A_0
  rw [View.read_writes_junk_eq_canon]
  exact congrArg View.canon (xop_pieces c (ms0_0 pt0) (hs0_0 pt0) (iblk m c 0 pt0))

theorem XP_eq (c : Dev nD) : XP m c = View.canon (xpPieces (ms0_0 pt0) (hs0_0 pt0) (iblk m c 0 pt0)) := by
  unfold XP out0_A_6
  rw [View.read_writes_junk_eq_canon, xp_pieces]

theorem XE_eq (c : Dev nD) : XE m c = View.canon
      [⟨Rect.unit (s := S256x224) ![0, 128] ![256, 96] inb_S256x224_S256x96_0_128, extractStridedSlice S256x96 ![0, 0] (txe (eacc (ms0_0 pt0) (hs0_0 pt0) (iblk m c 0 pt0) 16 12 (by decide))) slices_S256x128_o0_0_S256x96⟩,
       ⟨Rect.unit (s := S256x224) ![0, 0] ![256, 128] inb_S256x224_S256x128_0_0, txe (eacc (ms0_0 pt0) (hs0_0 pt0) (iblk m c 0 pt0) 0 16 (by decide))⟩] := by
  unfold XE out0_A_7
  rw [View.read_writes_junk_eq_canon, xe_pieces]

/-- Every point's block of the first result. -/
theorem YB_eq (c : Dev nD) (t : Fin cfg0.N) :
    YB m c t = yblk (shf (grid0.coords t)) (XOP m c) (iblk m c 1 t) (iblk m c 2 t) (iblk m c 3 t) (iblk m c 4 t) := by
  by_cases h0 : t.val % 74 = 0
  · have ht : t = pt0 := Fin.ext (by
      have hN : t.val < 74 := lt_of_lt_of_eq t.isLt N_0
      show t.val = 0
      omega)
    subst ht
    rw [YB_A m c _ h0, outA5, XOP_eq]
  · rw [YB_B m c t h0, outB5]

/-- A tile is a window of the staged input. -/
theorem tl_apply (arg1 : Memref sig .tc .vmem S256x3584 .bf16) (harg1 : arg1.IsWhole) (x0 : Vec F S256x3584 .bf16) (k : ℕ) (h : k < 28) (r : Fin 256) (l : Fin 128) :
    tl arg1 harg1 x0 k h (ix2 r l) = x0 (ix2 r ⟨128 * k + l.val, by omega⟩) := by
  unfold tl
  rw [shapeCast_apply (s := S256x128) (t := S256x128) _ _ (ix2 r l) (ix2 r l) rfl, Memref.IsWhole.readAt_unread]
  congr 1
  funext a
  apply Fin.ext
  match a with
  | ⟨0, _⟩ => show 0 + 1 * r.val = r.val; omega
  | ⟨1, _⟩ => show 128 * k + 1 * l.val = 128 * k + l.val; omega

/-- The operand at a lane is its tile's. -/
theorem xop_read (arg1 : Memref sig .tc .vmem S256x3584 .bf16) (harg1 : arg1.IsWhole) (x0 : Vec F S256x3584 .bf16) (r : Fin 256) (k : Fin 3584) :
    View.canon (xopPieces arg1 harg1 x0) (ix2 r k) = txop (tl arg1 harg1 x0 (k.val / 128) (by omega)) (ix2 r ⟨k.val % 128, by omega⟩) := by
  rw [← View.read_writes_junk_eq_canon VS0_0]
  unfold xopPieces
  refine (View.read_tilePieces VS0_0 _ _ _ _ _ 28 _ (ix2 r k) ⟨k.val / 128, by omega⟩ (by show k.val / 128 < 28; omega) (ix2 r ⟨k.val % 128, by omega⟩) ?_ 1 ?_).trans rfl
  · intro a
    match a with
    | ⟨0, _⟩ => show r.val = 0 + r.val; omega
    | ⟨1, _⟩ => show k.val = 128 * (k.val / 128) + k.val % 128; omega
  · intro i' hi'
    have : i'.val ≠ k.val / 128 := fun h => hi' (Fin.ext h)
    show k.val < 128 * i'.val ∨ 128 * i'.val + 128 ≤ k.val
    omega

end Cert.KernelIdeal.Run

end
-- ==== Proof.KI.Blocks.lean ====
module

public import proofs.«01_k».proof.Proof.KI.Value
public import proofs.«01_k».proof.Proof.KI.Reads

@[expose] public section

set_option maxRecDepth 16384

noncomputable section

namespace Cert.KernelIdeal.Run

open Idealize.ShloMosaic Idealize.ShloMosaic.TcCoe Idealize.ShloMosaic.Tactic
open Cert.KernelIdeal Cert.KernelIdeal.Gen

variable {F : FTy → Type} [FloatOps F]
variable (m : (ℓ : Loc nD τ sig) → Buf (Elt F) ℓ)

/-! The staged blocks as windows of the arguments. -/

/-- The region's first array is the first argument without its unit axis. -/
theorem V_main_v0 (c : Dev nD) : V m c main_v0 = shapeCast S256x3584 (m ((c : Thread nD τ).loc main_arg0)) shapeCasts_S1x256x3584_S256x3584 := by
  show StableHlo.after hostOps0 _ (Proc.devRef .tc main_v0) = _
  after_results
  rfl

theorem idx_win0 : ∀ t : Fin cfg0.N, win0_0.index t (0 : Fin 2) = 0 ∧ win0_0.index t (1 : Fin 2) = 0 :=
  (by decide +kernel : ∀ t : Fin grid0.N, _)
theorem idx_win1 : ∀ t : Fin cfg0.N, win0_1.index t (0 : Fin 2) = 0 ∧ win0_1.index t (1 : Fin 2) = t.val % 37 :=
  (by decide +kernel : ∀ t : Fin grid0.N, _)
theorem idx_win2 : ∀ t : Fin cfg0.N, win0_2.index t (0 : Fin 2) = 0 ∧ win0_2.index t (1 : Fin 2) = t.val :=
  (by decide +kernel : ∀ t : Fin grid0.N, _)
theorem idx_win3 : ∀ t : Fin cfg0.N, win0_3.index t (0 : Fin 2) = 0 ∧ win0_3.index t (1 : Fin 2) = t.val % 37 :=
  (by decide +kernel : ∀ t : Fin grid0.N, _)
theorem idx_win4 : ∀ t : Fin cfg0.N, win0_4.index t (0 : Fin 2) = 0 ∧ win0_4.index t (1 : Fin 2) = t.val :=
  (by decide +kernel : ∀ t : Fin grid0.N, _)

/-- The shift of a point: none in the first half of the grid, four bits in the second. -/
theorem shf_eq : ∀ t : Fin cfg0.N, shf (grid0.coords t) = BitVec.ofNat 32 (4 * (t.val / 37)) :=
  (by decide +kernel : ∀ t : Fin grid0.N, _)

theorem iblk0_apply (c : Dev nD) (t : Fin cfg0.N) (r : Fin 256) (k : Fin 3584) :
    iblk m c 0 t (ix2 r k) = m ((c : Thread nD τ).loc main_arg0) (ix3 0 r k) := by
  obtain ⟨e0, e1⟩ := idx_win0 t
  have h : iblk m c 0 t (ix2 r k) = V m c main_v0 (((cfg0.win 0).blk t).view.emb (ix2 r k)) := rfl
  have hi : ((cfg0.win 0).blk t).view.emb (ix2 r k) = (ix2 r k : S256x3584.Idx) := by
    funext a; apply Fin.ext
    match a with
    | ⟨0, _⟩ => show win0_0.index t (0 : Fin 2) * 256 + 1 * r.val = r.val; omega
    | ⟨1, _⟩ => show win0_0.index t (1 : Fin 2) * 3584 + 1 * k.val = k.val; omega
  rw [h, hi, V_main_v0]
  exact shapeCast_apply (s := S1x256x3584) (t := S256x3584) _ _ (ix2 r k) (ix3 0 r k) (by simp only [rowMajor_val2, rowMajor_val3]; simp)

theorem iblk1_apply (c : Dev nD) (t : Fin cfg0.N) (k : Fin 3584) (n : Fin 256) :
    iblk m c 1 t (ix2 k n) = m ((c : Thread nD τ).loc main_arg1) (ix2 k ⟨t.val % 37 * 256 + n.val, by omega⟩) := by
  obtain ⟨e0, e1⟩ := idx_win1 t
  have h : iblk m c 1 t (ix2 k n) = V m c main_arg1 (((cfg0.win 1).blk t).view.emb (ix2 k n)) := rfl
  have hi : ((cfg0.win 1).blk t).view.emb (ix2 k n) = (ix2 k ⟨t.val % 37 * 256 + n.val, by omega⟩ : S3584x9472.Idx) := by
    funext a; apply Fin.ext
    match a with
    | ⟨0, _⟩ => show win0_1.index t (0 : Fin 2) * 3584 + 1 * k.val = k.val; omega
    | ⟨1, _⟩ => show win0_1.index t (1 : Fin 2) * 256 + 1 * n.val = t.val % 37 * 256 + n.val; omega
  rw [h, hi, V_main_arg1]

theorem iblk3_apply (c : Dev nD) (t : Fin cfg0.N) (k : Fin 3584) (n : Fin 256) :
    iblk m c 3 t (ix2 k n) = m ((c : Thread nD τ).loc main_arg3) (ix2 k ⟨t.val % 37 * 256 + n.val, by omega⟩) := by
  obtain ⟨e0, e1⟩ := idx_win3 t
  have h : iblk m c 3 t (ix2 k n) = V m c main_arg3 (((cfg0.win 3).blk t).view.emb (ix2 k n)) := rfl
  have hi : ((cfg0.win 3).blk t).view.emb (ix2 k n) = (ix2 k ⟨t.val % 37 * 256 + n.val, by omega⟩ : S3584x9472.Idx) := by
    funext a; apply Fin.ext
    match a with
    | ⟨0, _⟩ => show win0_3.index t (0 : Fin 2) * 3584 + 1 * k.val = k.val; omega
    | ⟨1, _⟩ => show win0_3.index t (1 : Fin 2) * 256 + 1 * n.val = t.val % 37 * 256 + n.val; omega
  rw [h, hi, V_main_arg3]

theorem iblk2_apply (c : Dev nD) (t : Fin cfg0.N) (b : Fin 224) (n : Fin 256) :
    iblk m c 2 t (ix2 b n) = m ((c : Thread nD τ).loc main_arg2) (ix2 b ⟨t.val * 256 + n.val, by have : t.val < 74 := lt_of_lt_of_eq t.isLt N_0; omega⟩) := by
  obtain ⟨e0, e1⟩ := idx_win2 t
  have h : iblk m c 2 t (ix2 b n) = V m c main_arg2 (((cfg0.win 2).blk t).view.emb (ix2 b n)) := rfl
  have hi : ((cfg0.win 2).blk t).view.emb (ix2 b n) = (ix2 b ⟨t.val * 256 + n.val, by have : t.val < 74 := lt_of_lt_of_eq t.isLt N_0; omega⟩ : S224x18944.Idx) := by
    funext a; apply Fin.ext
    match a with
    | ⟨0, _⟩ => show win0_2.index t (0 : Fin 2) * 224 + 1 * b.val = b.val; omega
    | ⟨1, _⟩ => show win0_2.index t (1 : Fin 2) * 256 + 1 * n.val = t.val * 256 + n.val; omega
  rw [h, hi, V_main_arg2]

theorem iblk4_apply (c : Dev nD) (t : Fin cfg0.N) (b : Fin 224) (n : Fin 256) :
    iblk m c 4 t (ix2 b n) = m ((c : Thread nD τ).loc main_arg4) (ix2 b ⟨t.val * 256 + n.val, by have : t.val < 74 := lt_of_lt_of_eq t.isLt N_0; omega⟩) := by
  obtain ⟨e0, e1⟩ := idx_win4 t
  have h : iblk m c 4 t (ix2 b n) = V m c main_arg4 (((cfg0.win 4).blk t).view.emb (ix2 b n)) := rfl
  have hi : ((cfg0.win 4).blk t).view.emb (ix2 b n) = (ix2 b ⟨t.val * 256 + n.val, by have : t.val < 74 := lt_of_lt_of_eq t.isLt N_0; omega⟩ : S224x18944.Idx) := by
    funext a; apply Fin.ext
    match a with
    | ⟨0, _⟩ => show win0_4.index t (0 : Fin 2) * 224 + 1 * b.val = b.val; omega
    | ⟨1, _⟩ => show win0_4.index t (1 : Fin 2) * 256 + 1 * n.val = t.val * 256 + n.val; omega
  rw [h, hi, V_main_arg4]

end Cert.KernelIdeal.Run

end
-- ==== Proof.KI.Words.lean ====
module

public import proofs.«01_k».proof.Proof.KI.Tile
public import proofs.«01_k».proof.Proof.Num
public import Idealize.ShloMosaic.Lib.Pointwise
public import Idealize.ShloMosaic.Lib.BitcastPair

@[expose] public section

set_option maxRecDepth 16384

noncomputable section

namespace Cert.KernelIdeal.Run

open Idealize.ShloMosaic Idealize.ShloMosaic.TcCoe
open Cert.KernelIdeal Cert.KernelIdeal.Gen
open Msfp

/-! What the tile functions compute at the ideal values, lane by lane. -/

/-! ### Words of two half words -/

theorem app_eq (a b : ℕ) (ha : a < 65536) (hb : b < 65536) : BitVec.ofNat 16 a ++ BitVec.ofNat 16 b = BitVec.ofNat 32 (a * 65536 + b) := by
  apply BitVec.eq_of_toNat_eq
  rw [BitVec.toNat_append, BitVec.toNat_ofNat, BitVec.toNat_ofNat, BitVec.toNat_ofNat, Nat.mod_eq_of_lt (by omega), Nat.mod_eq_of_lt (by omega),
    Nat.mod_eq_of_lt (by omega), ← Nat.shiftLeft_add_eq_or_of_lt (by omega), Nat.shiftLeft_eq]

theorem half_nat (n k : ℕ) : (BitVec.ofNat 32 n).extractLsb' k 16 = BitVec.ofNat 16 ((n % 4294967296) / 2 ^ k) := by
  apply BitVec.eq_of_toNat_eq
  rw [BitVec.extractLsb'_toNat, BitVec.toNat_ofNat, BitVec.toNat_ofNat, Nat.shiftRight_eq_div_pow]

theorem half_app (a b : BitVec 16) (k : ℕ) (hk : k < 2) : (a ++ b).extractLsb' (16 * k) 16 = if k = 0 then b else a := by
  apply BitVec.eq_of_getLsbD_eq
  intro i hi
  rw [BitVec.getLsbD_extractLsb', BitVec.getLsbD_append]
  obtain rfl | rfl : k = 0 ∨ k = 1 := by omega
  · simp [hi]
  · simp [hi]

theorem bc32 (u : S256x128.Idx → BitVec 16) (h : S256x128.Bitcasts 16 S128x128 32) (r : Fin 128) (l : Fin 128) :
    bitcast S128x128 32 u h (ix2 r l) = u (ix2 ⟨2 * r.val + 1, by omega⟩ l) ++ u (ix2 ⟨2 * r.val, by omega⟩ l) := by
  rw [bitcast_16_32]
  congr 1
  · congr 1
    funext a
    match a with
    | ⟨0, _⟩ => rfl
    | ⟨1, _⟩ => rfl
  · congr 1
    funext a
    match a with
    | ⟨0, _⟩ => rfl
    | ⟨1, _⟩ => rfl

theorem bc16 (w : S128x128.Idx → BitVec 32) (h : S128x128.Bitcasts 32 S256x128 16) (r : Fin 256) (l : Fin 128) :
    bitcast S256x128 16 w h (ix2 r l) = (w (ix2 ⟨r.val / 2, by omega⟩ l)).extractLsb' (16 * (r.val % 2)) 16 := by
  rw [bitcast_32_16]
  congr 2
  funext a
  match a with
  | ⟨0, _⟩ => rfl
  | ⟨1, _⟩ => rfl

/-! ### Lanes -/

/-- A lane index as the gather wraps it. -/
def wr (v : BitVec 32) : BitVec 32 := Scalar.select (IntOp.cmpi .slt v 0#32) (IntOp.addi v 128#32) v

theorem wrapA_apply (v : IVec S256x128 32) (r : Fin 256) (l : Fin 128) : wrapA v (ix2 r l) = wr (v (ix2 r l)) := by
  unfold wrapA
  rw [shapeCast_apply (s := S256x128x1) (t := S256x128) _ _ (ix2 r l) (ix3 r l 0) (by simp only [rowMajor_val2, rowMajor_val3]; simp),
    shapeCast_apply (s := S256x128) (t := S256x128x1) _ _ (ix3 r l 0) (ix2 r l) (by simp only [rowMajor_val2, rowMajor_val3]; simp)]
  rfl

theorem wrapB_apply (v : IVec S128x128 32) (r : Fin 128) (l : Fin 128) : wrapB v (ix2 r l) = wr (v (ix2 r l)) := by
  unfold wrapB
  rw [shapeCast_apply (s := S128x128x1) (t := S128x128) _ _ (ix2 r l) (ix3 r l 0) (by simp only [rowMajor_val2, rowMajor_val3]; simp),
    shapeCast_apply (s := S128x128) (t := S128x128x1) _ _ (ix3 r l 0) (ix2 r l) (by simp only [rowMajor_val2, rowMajor_val3]; simp)]
  rfl

theorem laneA_apply (r : Fin 256) (l : Fin 128) : laneA (ix2 r l) = BitVec.ofNat 32 l.val := by
  unfold laneA iota
  simp

theorem laneB_apply (r : Fin 128) (l : Fin 128) : laneB (ix2 r l) = BitVec.ofNat 32 l.val := by
  unfold laneB iota
  simp

theorem gatherA {α : Type} (x : S256x128.Idx → α) (idx : IVec S256x128 32) (r : Fin 256) (l : Fin 128) :
    dynamicGather 1 x idx (ix2 r l) = x (ix2 r ⟨(idx (ix2 r l)).toNat % 128, Nat.mod_lt _ (by decide)⟩) := by
  unfold dynamicGather
  congr 1
  funext b
  match b with
  | ⟨0, _⟩ => rfl
  | ⟨1, _⟩ => rfl

theorem gatherB {α : Type} (x : S128x128.Idx → α) (idx : IVec S128x128 32) (r : Fin 128) (l : Fin 128) :
    dynamicGather 1 x idx (ix2 r l) = x (ix2 r ⟨(idx (ix2 r l)).toNat % 128, Nat.mod_lt _ (by decide)⟩) := by
  unfold dynamicGather
  congr 1
  funext b
  match b with
  | ⟨0, _⟩ => rfl
  | ⟨1, _⟩ => rfl

end Cert.KernelIdeal.Run

end
-- ==== Proof.KI.Expo.lean ====
module

public import proofs.«01_k».proof.Proof.KI.Words
public import proofs.«01_k».proof.Proof.Num
public import Idealize.ShloMosaic.Lib.Pointwise
public import Idealize.ShloMosaic.Lib.BitcastPair

@[expose] public section

set_option maxRecDepth 16384

noncomputable section

namespace Cert.KernelIdeal.Run

open Idealize.ShloMosaic Idealize.ShloMosaic.TcCoe
open Cert.KernelIdeal Cert.KernelIdeal.Gen
open Msfp

/-! What the tile functions compute at the ideal values, lane by lane. -/

/-! ### The exponent -/

/-- The bit pattern whose exponent field is `n`. -/
def fld (n : ℕ) : BitVec 32 := BitVec.ofNat 32 (n * 8388608)

theorem fld_add (n k : ℕ) : fld n + fld k = fld (n + k) := by
  unfold fld
  apply BitVec.eq_of_toNat_eq
  rw [BitVec.toNat_add, BitVec.toNat_ofNat, BitVec.toNat_ofNat, BitVec.toNat_ofNat]
  omega

theorem fld_cmp {a : EReal} (ha : a < ⊤) (n : ℕ) (h1 : 1 ≤ n) (h2 : n ≤ 255) : Ideal.ofBits .f32 (fld n) ≤ a ↔ n ≤ Ef a := fld_le ha n h1 h2

theorem fld_0 : fld 0 = 0#32 := by decide +kernel
theorem fld_1 : fld 1 = 8388608#32 := by decide +kernel
theorem fld_2 : fld 2 = 16777216#32 := by decide +kernel
theorem fld_4 : fld 4 = 33554432#32 := by decide +kernel
theorem fld_8 : fld 8 = 67108864#32 := by decide +kernel
theorem fld_16 : fld 16 = 134217728#32 := by decide +kernel
theorem fld_32 : fld 32 = 268435456#32 := by decide +kernel
theorem fld_64 : fld 64 = 536870912#32 := by decide +kernel
theorem fld_128 : fld 128 = 1073741824#32 := by decide +kernel

attribute [irreducible] fld

theorem estep_unfold (c : BitVec 32) (g : FVec Ideal S256x128 .f32) (e : IVec S256x128 32) (i : S256x128.Idx) :
    estep c g e i = if Ideal.ofBits .f32 (e i + c) ≤ (g i : EReal) then e i + c else e i := by
  have h : estep c g e i = Scalar.select (Ideal.cmp .ole (Ideal.ofBits .f32 (e i + c)) (g i)) (e i + c) (e i) := rfl
  rw [h]
  by_cases hc : Ideal.ofBits .f32 (e i + c) ≤ (g i : EReal)
  · rw [if_pos hc]
    simp only [Ideal.cmp, hc, decide_true]
    rfl
  · rw [if_neg hc]
    simp only [Ideal.cmp, hc, decide_false]
    rfl

theorem estep_apply (g : FVec Ideal S256x128 .f32) (e : IVec S256x128 32) (k n : ℕ) (hk : 1 ≤ k) (h : n + k ≤ 255) (i : S256x128.Idx)
    (hg : (g i : EReal) < ⊤) (he : e i = fld n) :
    estep (fld k) g e i = fld (sstep (Ef (g i)) k n) := by
  rw [estep_unfold, he, fld_add]
  unfold sstep
  have hd := fld_cmp hg (n + k) (by omega) h
  by_cases hc : n + k ≤ Ef (g i)
  · rw [if_pos hc, if_pos (hd.2 hc)]
  · rw [if_neg hc, if_neg (mt hd.1 hc)]

theorem sstep_le (E c n b : ℕ) (h : n + c ≤ b) : sstep E c n ≤ b := by
  unfold sstep
  split <;> omega

theorem ebits_apply (g : FVec Ideal S256x128 .f32) (i : S256x128.Idx) (hg : (g i : EReal) < ⊤) : ebits g i = fld (Ef (g i)) := by
  unfold ebits
  rw [← fld_1, ← fld_2, ← fld_4, ← fld_8, ← fld_16, ← fld_32, ← fld_64, ← fld_128]
  have h0 : broadcast S256x128 (0#32) i = fld 0 := fld_0.symm
  have b1 : sstep (Ef (g i)) 128 0 ≤ 128 := sstep_le _ _ _ _ (by omega)
  have h1 := estep_apply g _ 128 0 (by omega) (by omega) i hg h0
  have b2 : sstep (Ef (g i)) 64 _ ≤ 192 := sstep_le _ _ _ _ (Nat.add_le_add_right b1 64)
  have h2 := estep_apply g _ 64 _ (by omega) (by omega) i hg h1
  have b3 : sstep (Ef (g i)) 32 _ ≤ 224 := sstep_le _ _ _ _ (Nat.add_le_add_right b2 32)
  have h3 := estep_apply g _ 32 _ (by omega) (by omega) i hg h2
  have b4 : sstep (Ef (g i)) 16 _ ≤ 240 := sstep_le _ _ _ _ (Nat.add_le_add_right b3 16)
  have h4 := estep_apply g _ 16 _ (by omega) (by omega) i hg h3
  have b5 : sstep (Ef (g i)) 8 _ ≤ 248 := sstep_le _ _ _ _ (Nat.add_le_add_right b4 8)
  have h5 := estep_apply g _ 8 _ (by omega) (by omega) i hg h4
  have b6 : sstep (Ef (g i)) 4 _ ≤ 252 := sstep_le _ _ _ _ (Nat.add_le_add_right b5 4)
  have h6 := estep_apply g _ 4 _ (by omega) (by omega) i hg h5
  have b7 : sstep (Ef (g i)) 2 _ ≤ 254 := sstep_le _ _ _ _ (Nat.add_le_add_right b6 2)
  have h7 := estep_apply g _ 2 _ (by omega) (by omega) i hg h6
  have h8 := estep_apply g _ 1 _ (by omega) (by omega) i hg h7
  rw [search _ (Ef_le _)] at h8
  exact h8

/-- What the claim's condition says of a tile: no block's maximum is infinite or below `2^-125` but zero. -/
def Good (x : FVec Ideal S256x128 .bf16) : Prop :=
  ∀ r l, (tmax x (ix2 r l) : EReal) < ⊤ ∧ ((tmax x (ix2 r l) : EReal) = 0 ∨ ((p2 (-125) : ℝ) : EReal) ≤ tmax x (ix2 r l))

/-- The exponent field of the block of a lane. -/
def tE (x : FVec Ideal S256x128 .bf16) (r : Fin 256) (l : Fin 128) : ℕ := Ef (tmax x (ix2 r l))

theorem tE_le (x : FVec Ideal S256x128 .bf16) (r : Fin 256) (l : Fin 128) : tE x r l ≤ 254 := Ef_le _

theorem shr16 (E : ℕ) (h : E ≤ 254) : ((fld E) >>> (16 : ℕ)).setWidth 16 = BitVec.ofNat 16 (E * 128) := by
  unfold fld
  apply BitVec.eq_of_toNat_eq
  rw [BitVec.toNat_setWidth, BitVec.toNat_ushiftRight, BitVec.toNat_ofNat, BitVec.toNat_ofNat, Nat.shiftRight_eq_div_pow]
  omega

theorem shr_unfold (e : IVec S256x128 32) (i : S256x128.Idx) :
    trunci 16 (shrui e (broadcast S256x128 16#32)) natLt_16_32 i = (e i >>> (16 : ℕ)).setWidth 16 := rfl

theorem tew_apply (x : FVec Ideal S256x128 .bf16) (hx : Good x) (r l : Fin 128) :
    tew x (ix2 r l) = BitVec.ofNat 16 (tE x ⟨2 * r.val + 1, by omega⟩ l * 128) ++ BitVec.ofNat 16 (tE x ⟨2 * r.val, by omega⟩ l * 128) := by
  have key : ∀ R : Fin 256, trunci 16 (shrui (ebits (tmax x)) (broadcast S256x128 16#32)) natLt_16_32 (ix2 R l) = BitVec.ofNat 16 (tE x R l * 128) := fun R => by
    rw [shr_unfold, ebits_apply (tmax x) (ix2 R l) (hx R l).1]
    exact shr16 _ (tE_le x R l)
  unfold tew
  rw [bc32, key, key]

theorem tew_half (x : FVec Ideal S256x128 .bf16) (hx : Good x) (h) (r : Fin 256) (l : Fin 128) :
    bitcast S256x128 16 (tew x) h (ix2 r l) = BitVec.ofNat 16 (tE x r l * 128) := by
  rw [bc16, tew_apply x hx, half_app _ _ _ (by omega)]
  split
  · congr 3; apply Fin.ext; show 2 * (r.val / 2) = r.val; omega
  · congr 3; apply Fin.ext; show 2 * (r.val / 2) + 1 = r.val; omega

theorem sub_app (a b : ℕ) (ha : a ≤ 254) (hb : b ≤ 254) :
    2147516416#32 - (BitVec.ofNat 16 (a * 128) ++ BitVec.ofNat 16 (b * 128)) = BitVec.ofNat 16 ((256 - a) * 128) ++ BitVec.ofNat 16 ((256 - b) * 128) := by
  rw [app_eq _ _ (by omega) (by omega), app_eq _ _ (by omega) (by omega)]
  apply BitVec.eq_of_toNat_eq
  rw [BitVec.toNat_sub, BitVec.toNat_ofNat, BitVec.toNat_ofNat, BitVec.toNat_ofNat]
  omega

theorem mul_half (x : FVec Ideal S256x128 .bf16) (hx : Good x) (h) (r : Fin 256) (l : Fin 128) :
    bitcast S256x128 16 (subi (broadcast S128x128 2147516416#32) (tew x)) h (ix2 r l) = BitVec.ofNat 16 ((256 - tE x r l) * 128) := by
  rw [bc16]
  show ((2147516416#32 : BitVec 32) - tew x (ix2 _ l)).extractLsb' _ 16 = _
  rw [tew_apply x hx, sub_app _ _ (tE_le _ _ _) (tE_le _ _ _), half_app _ _ _ (by omega)]
  split
  · congr 4; apply Fin.ext; show 2 * (r.val / 2) = r.val; omega
  · congr 4; apply Fin.ext; show 2 * (r.val / 2) + 1 = r.val; omega

end Cert.KernelIdeal.Run

end
-- ==== Proof.KI.Max.lean ====
module

public import proofs.«01_k».proof.Proof.KI.Words
public import proofs.«01_k».proof.Proof.Num
public import Idealize.ShloMosaic.Lib.Pointwise
public import Idealize.ShloMosaic.Lib.BitcastPair

@[expose] public section

set_option maxRecDepth 16384

noncomputable section

namespace Cert.KernelIdeal.Run

open Idealize.ShloMosaic Idealize.ShloMosaic.TcCoe
open Cert.KernelIdeal Cert.KernelIdeal.Gen
open Msfp

/-! What the tile functions compute at the ideal values, lane by lane. -/

/-! ### The block maximum -/

/-- The lane whose index differs by `d`. -/
def xl (d : ℕ) (l : Fin 128) : Fin 128 := ⟨(l.val ^^^ d) % 128, Nat.mod_lt _ (by decide)⟩

theorem wr_xor : ∀ l : Fin 128, (wr (IntOp.xori (BitVec.ofNat 32 l.val) 1#32)).toNat % 128 = (l.val ^^^ 1) % 128
    ∧ (wr (IntOp.xori (BitVec.ofNat 32 l.val) 2#32)).toNat % 128 = (l.val ^^^ 2) % 128
    ∧ (wr (IntOp.xori (BitVec.ofNat 32 l.val) 4#32)).toNat % 128 = (l.val ^^^ 4) % 128
    ∧ (wr (IntOp.xori (BitVec.ofNat 32 l.val) 8#32)).toNat % 128 = (l.val ^^^ 8) % 128 := by
  decide +kernel

theorem gstep_apply (d : BitVec 32) (n : ℕ) (h : ∀ l : Fin 128, (wr (IntOp.xori (BitVec.ofNat 32 l.val) d)).toNat % 128 = (l.val ^^^ n) % 128)
    (g : FVec Ideal S256x128 .f32) (r : Fin 256) (l : Fin 128) :
    gstep d g (ix2 r l) = max (g (ix2 r l) : EReal) (g (ix2 r (xl n l))) := by
  unfold gstep
  show max (g (ix2 r l) : EReal) (dynamicGather 1 g _ (ix2 r l)) = _
  rw [gatherA, wrapA_apply]
  have e : xori laneA (broadcast S256x128 d) (ix2 r l) = IntOp.xori (BitVec.ofNat 32 l.val) d := by
    show IntOp.xori (laneA (ix2 r l)) d = _
    rw [laneA_apply]
  congr 3
  apply Fin.ext
  show _ % 128 = (l.val ^^^ n) % 128
  rw [e, h]

theorem gstep_le (d : BitVec 32) (n : ℕ) (h : ∀ l : Fin 128, (wr (IntOp.xori (BitVec.ofNat 32 l.val) d)).toNat % 128 = (l.val ^^^ n) % 128)
    (hn : ∀ s < n, ∀ l : Fin 128, xl s (xl n l) = xl (s + n) l)
    (f : Fin 128 → EReal) (g : FVec Ideal S256x128 .f32) (r : Fin 256) (c : EReal) (hg : ∀ l, (g (ix2 r l) : EReal) ≤ c ↔ ∀ s < n, f (xl s l) ≤ c) (l : Fin 128) :
    (gstep d g (ix2 r l) : EReal) ≤ c ↔ ∀ s < 2 * n, f (xl s l) ≤ c := by
  rw [gstep_apply d n h, max_le_iff, hg, hg]
  constructor
  · rintro ⟨h1, h2⟩ s hs
    by_cases hsn : s < n
    · exact h1 s hsn
    · have := h2 (s - n) (by omega)
      rw [hn (s - n) (by omega)] at this
      rwa [show s - n + n = s by omega] at this
  · intro hh
    refine ⟨fun s hs => hh s (by omega), fun s hs => ?_⟩
    rw [hn s hs]
    exact hh (s + n) (by omega)

theorem xl_1 : ∀ s < 1, ∀ l : Fin 128, xl s (xl 1 l) = xl (s + 1) l := by decide +kernel
theorem xl_2 : ∀ s < 2, ∀ l : Fin 128, xl s (xl 2 l) = xl (s + 2) l := by decide +kernel
theorem xl_4 : ∀ s < 4, ∀ l : Fin 128, xl s (xl 4 l) = xl (s + 4) l := by decide +kernel
theorem xl_8 : ∀ s < 8, ∀ l : Fin 128, xl s (xl 8 l) = xl (s + 8) l := by decide +kernel
theorem xl_0 : ∀ l : Fin 128, xl 0 l = l := by decide +kernel

/-- Lane `j` of the block of lane `l`. -/
def bl (l : Fin 128) (j : Fin 16) : Fin 128 := ⟨16 * (l.val / 16) + j.val, by omega⟩

theorem xl_bl : ∀ s < 16, ∀ l : Fin 128, xl s l = bl l ⟨(xl s l).val % 16, Nat.mod_lt _ (by decide)⟩ := by decide +kernel
theorem bl_xl : ∀ (j : Fin 16) (l : Fin 128), (l.val ^^^ (bl l j).val) < 16 ∧ bl l j = xl (l.val ^^^ (bl l j).val) l := by decide +kernel

/-- The magnitude of a lane. -/
def amag (x : FVec Ideal S256x128 .bf16) (r : Fin 256) (l : Fin 128) : EReal := max (x (ix2 r l) : EReal) (-(x (ix2 r l) : EReal))

theorem tmax_le (x : FVec Ideal S256x128 .bf16) (r : Fin 256) (l : Fin 128) (c : EReal) :
    (tmax x (ix2 r l) : EReal) ≤ c ↔ ∀ j : Fin 16, amag x r (bl l j) ≤ c := by
  unfold tmax
  have h0 : ∀ l, ((absf (extf .f32 x bitsLt_bf16_f32) : FVec Ideal S256x128 .f32) (ix2 r l) : EReal) ≤ c ↔ ∀ s < 1, amag x r (xl s l) ≤ c := fun l => by
    constructor
    · intro hh s hs
      obtain rfl : s = 0 := by omega
      rw [xl_0]
      exact hh
    · intro hh
      have := hh 0 (by omega)
      rw [xl_0] at this
      exact this
  have h := gstep_le 8#32 8 (fun l => (wr_xor l).2.2.2) xl_8 (amag x r) _ r c
    (gstep_le 4#32 4 (fun l => (wr_xor l).2.2.1) xl_4 (amag x r) _ r c
      (gstep_le 2#32 2 (fun l => (wr_xor l).2.1) xl_2 (amag x r) _ r c
        (gstep_le 1#32 1 (fun l => (wr_xor l).1) xl_1 (amag x r) (absf (extf .f32 x bitsLt_bf16_f32)) r c h0))) l
  rw [h]
  constructor
  · intro hh j
    obtain ⟨hs, e⟩ := bl_xl j l
    rw [e]
    exact hh _ (by omega)
  · intro hh s hs
    rw [xl_bl s (by omega) l]
    exact hh _

end Cert.KernelIdeal.Run

end
-- ==== Proof.KI.Codes.lean ====
module

public import proofs.«01_k».proof.Proof.KI.Expo
public import proofs.«01_k».proof.Proof.KI.Max
public import proofs.«01_k».proof.Proof.Num
public import Idealize.ShloMosaic.Lib.Pointwise
public import Idealize.ShloMosaic.Lib.BitcastPair

@[expose] public section

set_option maxRecDepth 16384

noncomputable section

namespace Cert.KernelIdeal.Run

open Idealize.ShloMosaic Idealize.ShloMosaic.TcCoe
open Cert.KernelIdeal Cert.KernelIdeal.Gen
open Msfp

/-! What the tile functions compute at the ideal values, lane by lane. -/

/-! ### Codes -/

theorem abs_le_tmax (x : FVec Ideal S256x128 .bf16) (r : Fin 256) (l : Fin 128) : amag x r l ≤ tmax x (ix2 r l) := by
  have := (tmax_le x r l _).1 le_rfl ⟨l.val % 16, by omega⟩
  rwa [show bl l ⟨l.val % 16, by omega⟩ = l from Fin.ext (by show 16 * (l.val / 16) + l.val % 16 = l.val; omega)] at this

/-- The numbers of a tile. -/
def tR (x : FVec Ideal S256x128 .bf16) (r : Fin 256) (l : Fin 128) : ℝ := EReal.toReal (x (ix2 r l))

theorem coe_tR (x : FVec Ideal S256x128 .bf16) (hx : Good x) (r : Fin 256) (l : Fin 128) : (x (ix2 r l) : EReal) = ((tR x r l : ℝ) : EReal) := by
  have h1 : max (x (ix2 r l) : EReal) (-(x (ix2 r l) : EReal)) < ⊤ := lt_of_le_of_lt (abs_le_tmax x r l) (hx r l).1
  have hb : (x (ix2 r l) : EReal) ≠ ⊥ := fun e => by
    rw [e] at h1
    exact absurd h1 (by simp)
  exact (EReal.coe_toReal (ne_of_lt (lt_of_le_of_lt (le_max_left _ _) h1)) hb).symm

theorem zero_of_zero (x : FVec Ideal S256x128 .bf16) (r : Fin 256) (l : Fin 128) (h : (tmax x (ix2 r l) : EReal) = 0) : (x (ix2 r l) : EReal) = 0 := by
  have h1 := abs_le_tmax x r l
  rw [h] at h1
  unfold amag at h1
  rw [max_le_iff] at h1
  exact le_antisymm h1.1 (by simpa using EReal.neg_le_neg_iff.2 h1.2)

theorem tE_cases (x : FVec Ideal S256x128 .bf16) (hx : Good x) (r : Fin 256) (l : Fin 128) :
    (2 ≤ tE x r l) ∨ (tE x r l = 0 ∧ tR x r l = 0) := by
  rcases (hx r l).2 with h | h
  · right
    refine ⟨by unfold tE; rw [h]; exact Ef_zero, ?_⟩
    unfold tR
    rw [zero_of_zero x r l h]
    rfl
  · left
    exact two_le_Ef h

/-- The code of a lane. -/
def tC (x : FVec Ideal S256x128 .bf16) (r : Fin 256) (l : Fin 128) : ℤ := code (tR x r l * p2 (129 - (tE x r l : ℤ)))

theorem seven : (((7#32 : BitVec 32).toInt : ℝ) : EReal) = (((7 : ℤ) : ℝ) : EReal) := by
  rw [show (7#32 : BitVec 32).toInt = 7 by decide +kernel]

theorem minus_seven : (((4294967289#32 : BitVec 32).toInt : ℝ) : EReal) = (((-7 : ℤ) : ℝ) : EReal) := by
  rw [show (4294967289#32 : BitVec 32).toInt = -7 by decide +kernel]

/-- The scaled number, zero where the number is zero. -/
def tsc (x : FVec Ideal S256x128 .bf16) : FVec Ideal S256x128 .bf16 :=
  select (cmpf .oeq x (broadcast S256x128 (Scalar.ofBits .bf16 0x0000#16))) (broadcast S256x128 (Scalar.ofBits .bf16 0x0000#16)) (mulf x (tmul x))

theorem tsc_unfold (x : FVec Ideal S256x128 .bf16) (i : S256x128.Idx) :
    (tsc x i : EReal) = Scalar.select (Ideal.cmp .oeq (x i) (Ideal.ofBits .bf16 0x0000#16)) (Ideal.ofBits .bf16 0x0000#16) ((x i : EReal) * tmul x i) := rfl

theorem tmul_unfold (x : FVec Ideal S256x128 .bf16) (i : S256x128.Idx) :
    tmul x i = Ideal.ofBits .bf16 (bitcast S256x128 16 (subi (broadcast S128x128 2147516416#32) (tew x)) bitcasts_S128x128_w32_S256x128_w16 i) := rfl

theorem tsc_apply (x : FVec Ideal S256x128 .bf16) (hx : Good x) (r : Fin 256) (l : Fin 128) :
    (tsc x (ix2 r l) : EReal) = ((tR x r l * p2 (129 - (tE x r l : ℤ)) : ℝ) : EReal) := by
  rw [tsc_unfold, tmul_unfold, mul_half x hx, ofBits_bf_zero]
  by_cases hz : (x (ix2 r l) : EReal) = 0
  · have hr : tR x r l = 0 := by unfold tR; rw [hz]; rfl
    rw [hr, zero_mul]
    simp only [Ideal.cmp, hz, decide_true]
    rfl
  · rcases tE_cases x hx r l with h | ⟨_, h⟩
    · rw [ofBits_bf (256 - tE x r l) (by have := tE_le x r l; omega) (by omega)]
      simp only [Ideal.cmp, hz, decide_false]
      have e : Scalar.select (BitVec.ofBool false) (0 : EReal) ((x (ix2 r l) : EReal) * ((p2 (((256 - tE x r l : ℕ) : ℤ) - 127) : ℝ) : EReal))
          = (x (ix2 r l) : EReal) * ((p2 (((256 - tE x r l : ℕ) : ℤ) - 127) : ℝ) : EReal) := rfl
      refine e.trans ?_
      rw [coe_tR x hx, coe_mul', show (((256 - tE x r l : ℕ) : ℤ) - 127) = 129 - (tE x r l : ℤ) by have := tE_le x r l; omega]
    · exact absurd (by rw [coe_tR x hx, h]; rfl) hz

theorem tcode_unfold (x : FVec Ideal S256x128 .bf16) (i : S256x128.Idx) :
    (tcode x i : EReal) = min (Scalar.sitofp (F := Ideal) .f32 (7#32 : BitVec 32)) (max (Scalar.sitofp (F := Ideal) .f32 (4294967289#32 : BitVec 32)) (Ideal.liftRound Ideal.roundHalfEven (tsc x i))) := rfl

theorem tcode_apply (x : FVec Ideal S256x128 .bf16) (hx : Good x) (r : Fin 256) (l : Fin 128) :
    (tcode x (ix2 r l) : EReal) = ((tC x r l : ℝ) : EReal) := by
  rw [tcode_unfold, Ideal.scalar_sitofp_def, Ideal.scalar_sitofp_def, seven, minus_seven, tsc_apply x hx]
  exact code_eq' _

/-- The scale of a lane's block. -/
def tscl (x : FVec Ideal S256x128 .bf16) : FVec Ideal S256x128 .bf16 :=
  mulf (bitcastToFloat .bf16 (bitcast S256x128 16 (tew x) bitcasts_S128x128_w32_S256x128_w16)) (broadcast S256x128 (Scalar.ofBits .bf16 0x3E80#16))

theorem mulf_at {s : Shape} {φ : FTy} (a b : FVec Ideal s φ) (i : s.Idx) : (mulf a b i : EReal) = (a i : EReal) * (b i : EReal) := rfl
theorem bits_at {s : Shape} {φ : FTy} (x : IVec s φ.bits) (i : s.Idx) : bitcastToFloat (F := Ideal) φ x i = Ideal.ofBits φ (x i) := rfl
theorem bc_at {s : Shape} {α : Type} (x : α) (i : s.Idx) : broadcast s x i = x := rfl
theorem sbits (φ : FTy) (b : BitVec φ.bits) : Scalar.ofBits (F := Ideal) φ b = Ideal.ofBits φ b := rfl

theorem tscl_unfold (x : FVec Ideal S256x128 .bf16) (i : S256x128.Idx) :
    (tscl x i : EReal) = Ideal.ofBits .bf16 (bitcast S256x128 16 (tew x) bitcasts_S128x128_w32_S256x128_w16 i) * Ideal.ofBits .bf16 0x3E80#16 := by
  unfold tscl
  rw [mulf_at, bits_at, bc_at, sbits]

theorem txop_unfold (x : FVec Ideal S256x128 .bf16) : txop x = shapeCast S256x128 (mulf (tcode x) (tscl x)) shapeCasts_S256x128_S256x128 := rfl

theorem txop_apply (x : FVec Ideal S256x128 .bf16) (hx : Good x) (r : Fin 256) (l : Fin 128) :
    (txop x (ix2 r l) : EReal) = (((tC x r l : ℝ) * p2 ((tE x r l : ℤ) - 129) : ℝ) : EReal) := by
  rw [txop_unfold, shapeCast_apply (s := S256x128) (t := S256x128) _ _ (ix2 r l) (ix2 r l) rfl, mulf_at, tscl_unfold, tcode_apply x hx, tew_half x hx, ofBits_bf_quarter]
  rcases tE_cases x hx r l with h | ⟨h, h0⟩
  · rw [ofBits_bf _ (by omega) (tE_le x r l), coe_mul', coe_mul', ← p2_add, show ((tE x r l : ℤ) - 127 + -2) = (tE x r l : ℤ) - 129 by omega]
  · have hc : tC x r l = 0 := by unfold tC; rw [h0, zero_mul, code_zero]
    rw [hc, Int.cast_zero, zero_mul, EReal.coe_zero, zero_mul]

end Cert.KernelIdeal.Run

end
-- ==== Proof.Wint.lean ====
module

public import proofs.«01_k».proof.Proof.Num

@[expose] public section

noncomputable section

namespace Msfp

/-- The signed magnitude in the low (`h = 0`) or the high (`h = 1`) four bits of a byte: the top bit is the sign, the other three the magnitude. -/
def wint (h : ℕ) (q : BitVec 8) : ℤ :=
  (((q.toNat / 2 ^ (4 * h)) % 8 : ℕ) : ℤ) * (1 - 2 * (((q.toNat / 2 ^ (4 * h)) / 8 % 2 : ℕ) : ℤ))

/-- A finite sum of reals, taken among the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

end Msfp

end
-- ==== Proof.KI.Weights.lean ====
module

public import proofs.«01_k».proof.Proof.KI.Codes
public import proofs.«01_k».proof.Proof.KI.Reads
public import proofs.«01_k».proof.Proof.Wint
public import Idealize.ShloMosaic.Lib.BitcastFour
public import Idealize.ShloMosaic.Lib.MatmulPlain

@[expose] public section

set_option maxRecDepth 16384

noncomputable section

namespace Cert.KernelIdeal.Run

open Idealize.ShloMosaic Idealize.ShloMosaic.TcCoe
open Cert.KernelIdeal Cert.KernelIdeal.Gen
open Msfp

/-! The packed weights: four bits of a byte are a sign and a magnitude of three bits. -/

/-- The eight-bit float of those four bits: the sign on top, the magnitude at the bottom. -/
def wbyte (h : ℕ) (q : BitVec 8) : BitVec 8 := ((q >>> (4 * h)) &&& 7#8) ||| (((q >>> (4 * h)) <<< 4) &&& 128#8)

theorem wbyte_table : ∀ (h : Fin 2) (n : Fin 256), (wbyte h.val (BitVec.ofNat 8 n.val)).extractLsb' 3 4 = 0#4
    ∧ wint h.val (BitVec.ofNat 8 n.val) = (if (wbyte h.val (BitVec.ofNat 8 n.val)).extractLsb' 7 1 == 1#1 then -1 else 1)
      * (((wbyte h.val (BitVec.ofNat 8 n.val)).extractLsb' 0 3).toNat : ℤ) := by
  decide +kernel

theorem ofBits_wbyte (h : ℕ) (hh : h < 2) (q : BitVec 8) : Ideal.ofBits .fp8e4m3 (wbyte h q) = (((wint h q : ℝ) * p2 (-9) : ℝ) : EReal) := by
  obtain ⟨e1, e2⟩ := wbyte_table ⟨h, hh⟩ ⟨q.toNat, q.isLt⟩
  dsimp only at e1 e2
  rw [BitVec.ofNat_toNat, BitVec.setWidth_eq] at e1 e2
  rw [e2]
  unfold Ideal.ofBits Ideal.e4m3fn
  simp only [e1]
  rw [if_neg (by rintro ⟨h, _⟩; exact absurd h (by decide)), if_pos (by decide)]
  generalize (BitVec.extractLsb' 0 3 (wbyte h q)).toNat = m
  unfold p2
  congr 1
  split_ifs <;> push_cast <;> rfl

/-- What the kernel does to a word of four bytes. -/
def wword (s w : BitVec 32) : BitVec 32 :=
  IntOp.ori (IntOp.andi (IntOp.shrui .vector w s) 117901063#32) (IntOp.andi (IntOp.shli .vector (IntOp.shrui .vector w s) 4#32) 2155905152#32)

theorem mask1 : ∀ p : Fin 32, (117901063#32 : BitVec 32).getLsbD p.val = decide (p.val % 8 < 3) := by decide +kernel
theorem mask2 : ∀ p : Fin 32, (2155905152#32 : BitVec 32).getLsbD p.val = decide (p.val % 8 = 7) := by decide +kernel
theorem mask1b : ∀ p : Fin 8, (7#8 : BitVec 8).getLsbD p.val = decide (p.val < 3) := by decide +kernel
theorem mask2b : ∀ p : Fin 8, (128#8 : BitVec 8).getLsbD p.val = decide (p.val = 7) := by decide +kernel

theorem shr_small (w : BitVec 32) (h : ℕ) (hh : h < 2) : IntOp.shrui .vector w (BitVec.ofNat 32 (4 * h)) = w >>> (4 * h) := by
  obtain rfl | rfl : h = 0 ∨ h = 1 := by omega
  · rfl
  · rfl

theorem shl_four (w : BitVec 32) : IntOp.shli .vector w 4#32 = w <<< 4 := rfl

theorem wword_bit (h : ℕ) (hh : h < 2) (w : BitVec 32) (p : ℕ) (hp : p < 32) :
    (wword (BitVec.ofNat 32 (4 * h)) w).getLsbD p = ((w.getLsbD (4 * h + p) && decide (p % 8 < 3)) || (w.getLsbD (4 * h + (p - 4)) && decide (p % 8 = 7))) := by
  unfold wword
  rw [shr_small w h hh, shl_four]
  unfold IntOp.ori IntOp.andi
  rw [BitVec.getLsbD_or, BitVec.getLsbD_and, BitVec.getLsbD_and, mask1 ⟨p, hp⟩, mask2 ⟨p, hp⟩, BitVec.getLsbD_shiftLeft, BitVec.getLsbD_ushiftRight, BitVec.getLsbD_ushiftRight]
  dsimp only
  by_cases h7 : p % 8 = 7
  · have : ¬ p < 4 := by omega
    simp [h7, hp, this]
  · simp [h7]

theorem wbyte_bit (h : ℕ) (q : BitVec 8) (p : ℕ) (hp : p < 8) :
    (wbyte h q).getLsbD p = ((q.getLsbD (4 * h + p) && decide (p < 3)) || (q.getLsbD (4 * h + (p - 4)) && decide (p = 7))) := by
  unfold wbyte
  rw [BitVec.getLsbD_or, BitVec.getLsbD_and, BitVec.getLsbD_and, mask1b ⟨p, hp⟩, mask2b ⟨p, hp⟩, BitVec.getLsbD_shiftLeft, BitVec.getLsbD_ushiftRight, BitVec.getLsbD_ushiftRight]
  dsimp only
  by_cases h7 : p = 7
  · subst h7; simp
  · simp [h7]

theorem ix2_same {R C : ℕ} (r : Fin R) (c : Fin C) : (ValueIdx.ix2 r c : (⟨2, ![R, C]⟩ : Shape).Idx) = ix2 r c := by
  funext a
  match a with
  | ⟨0, _⟩ => rfl
  | ⟨1, _⟩ => rfl

theorem bc8 (w : S896x256.Idx → BitVec 32) (hb : S896x256.Bitcasts 32 S3584x256 8) (k : Fin 3584) (n : Fin 256) (p : ℕ) (hp : p < 8) :
    (bitcast S3584x256 8 w hb (ix2 k n)).getLsbD p = (w (ix2 ⟨k.val / 4, by omega⟩ n)).getLsbD (8 * (k.val % 4) + p) := by
  rw [bitcast_getLsbD w hb (ix2 k n) p hp (by decide)]
  have hrow : S3584x256.row (ix2 k n) = k.val := rfl
  congr 1
  · congr 1
    funext c
    match c with
    | ⟨0, _⟩ => exact Fin.ext ((hb.srcIdx_row _ _ _ ⟨0, Nat.zero_lt_two⟩ rfl).trans (by rw [hrow]; show (k.val * 8 + p) / 32 = k.val / 4; omega))
    | ⟨1, _⟩ => exact Fin.ext (hb.srcIdx_other _ _ _ ⟨1, Nat.one_lt_two⟩ (by show ¬ 1 + 2 = 2; omega))
  · rw [hrow]; omega

theorem unpack_apply (h : ℕ) (hh : h < 2) (q : Vec Ideal S3584x256 .i8) (k : Fin 3584) (n : Fin 256) :
    bitcast S3584x256 8 (fun i => wword (BitVec.ofNat 32 (4 * h)) (bitcast S896x256 32 q bitcasts_S3584x256_w8_S896x256_w32 i)) bitcasts_S896x256_w32_S3584x256_w8 (ix2 k n)
      = wbyte h (q (ix2 k n)) := by
  apply BitVec.eq_of_getLsbD_eq
  intro p hp
  rw [bc8 _ _ k n p hp, wbyte_bit h _ p hp]
  rw [wword_bit h hh _ _ (by omega)]
  have key : ∀ j : ℕ, j < 8 → (bitcast S896x256 32 q bitcasts_S3584x256_w8_S896x256_w32 (ix2 ⟨k.val / 4, by omega⟩ n)).getLsbD (8 * (k.val % 4) + j) = (q (ix2 k n)).getLsbD j := by
    intro j hj
    have hb := bitcast_8_32_getLsbD_ix2 (R := 3584) (r := 896) (n := 256) q bitcasts_S3584x256_w8_S896x256_w32 ⟨k.val / 4, by omega⟩ n (8 * (k.val % 4) + j) (by omega) k
      (by show k.val = 4 * (k.val / 4) + (8 * (k.val % 4) + j) / 8; omega)
    rw [ix2_same, ix2_same] at hb
    refine hb.trans ?_
    rw [show (8 * (k.val % 4) + j) % 8 = j by omega]
  rw [show (8 * (k.val % 4) + p) % 8 = p by omega]
  congr 1
  · by_cases h3 : p < 3
    · rw [show 4 * h + (8 * (k.val % 4) + p) = 8 * (k.val % 4) + (4 * h + p) by omega, key _ (by omega)]
    · simp [h3]
  · by_cases h7 : p = 7
    · rw [show 4 * h + (8 * (k.val % 4) + p - 4) = 8 * (k.val % 4) + (4 * h + (p - 4)) by omega, key _ (by omega)]
    · simp [h7]

/-! ### The scale of a weight -/

/-- The kernel's bits of a scale. -/
def sword (e : BitVec 8) : BitVec 32 := IntOp.shli .vector (IntOp.maxsi (IntOp.addi (e.signExtend 32) 127#32) 0#32) 23#32

theorem sword_table : ∀ n : Fin 256, -126 ≤ (BitVec.ofNat 8 n.val).toInt →
    sword (BitVec.ofNat 8 n.val) = BitVec.ofNat 32 (((BitVec.ofNat 8 n.val).toInt + 127).toNat * 8388608) := by
  decide +kernel

theorem sword_eq (e : BitVec 8) (he : -126 ≤ e.toInt) : Ideal.ofBits .f32 (sword e) = ((p2 e.toInt : ℝ) : EReal) := by
  have h := sword_table ⟨e.toNat, e.isLt⟩
  dsimp only at h
  rw [BitVec.ofNat_toNat, BitVec.setWidth_eq] at h
  have hlt : e.toInt < 128 := by have := BitVec.toInt_lt (x := e); simpa using this
  rw [h he, ofBits_fld _ (by omega) (by omega), show (((e.toInt + 127).toNat : ℕ) : ℤ) - 127 = e.toInt by omega]

/-! ### The weights of a block -/

def wblk (s : BitVec 32) (q : Vec Ideal S3584x256 .i8) : FVec Ideal S3584x256 .fp8e4m3 :=
  bitcastToFloat .fp8e4m3 (bitcast S3584x256 8 (fun i => wword s (bitcast S896x256 32 q bitcasts_S3584x256_w8_S896x256_w32 i)) bitcasts_S896x256_w32_S3584x256_w8)

def sblk (e : Vec Ideal S224x256 .i8) : FVec Ideal S224x256 .f32 := bitcastToFloat .f32 (fun i => sword (e i))

theorem pay438_unfold (s : BitVec 32) (q : Vec Ideal S3584x256 .i8) (e : Vec Ideal S224x256 .i8) :
    k0_pay438 s q e = shapeCast S3584x256 (mulf (shapeCast S224x16x256 (extf .bf16 (wblk s q) bitsLt_fp8e4m3_bf16) shapeCasts_S3584x256_S224x16x256)
      (broadcastTo S224x16x256 (shapeCast S224x1x256 (truncf .bf16 (sblk e) bitsLt_bf16_f32) shapeCasts_S224x256_S224x1x256) broadcasts_S224x1x256_S224x16x256)) shapeCasts_S224x16x256_S3584x256 := rfl

theorem extf_at {s : Shape} {φ ψ : FTy} (a : FVec Ideal s φ) (h) (i : s.Idx) : (extf ψ a h i : EReal) = (a i : EReal) := rfl
theorem truncf_at {s : Shape} {φ ψ : FTy} (a : FVec Ideal s φ) (h) (i : s.Idx) : (truncf ψ a h i : EReal) = (a i : EReal) := rfl

theorem cast_23 (w : S3584x256.Idx → EReal) (k : Fin 3584) (n : Fin 256) :
    shapeCast S224x16x256 w shapeCasts_S3584x256_S224x16x256 (ix3 ⟨k.val / 16, by omega⟩ ⟨k.val % 16, by omega⟩ n) = w (ix2 k n) :=
  shapeCast_apply (s := S3584x256) (t := S224x16x256) _ _ _ (ix2 k n) (by
    rw [rowMajor_val3 _ 4096 256 rfl rfl, rowMajor_val2 _ 256 rfl]
    show k.val * 256 + n.val = k.val / 16 * 4096 + k.val % 16 * 256 + n.val
    omega)

theorem cast_32 (w : S224x16x256.Idx → EReal) (k : Fin 3584) (n : Fin 256) :
    shapeCast S3584x256 w shapeCasts_S224x16x256_S3584x256 (ix2 k n) = w (ix3 ⟨k.val / 16, by omega⟩ ⟨k.val % 16, by omega⟩ n) :=
  shapeCast_apply (s := S224x16x256) (t := S3584x256) _ _ _ _ (by
    rw [rowMajor_val3 _ 4096 256 rfl rfl, rowMajor_val2 _ 256 rfl]
    show k.val / 16 * 4096 + k.val % 16 * 256 + n.val = k.val * 256 + n.val
    omega)

theorem bcast_3 (w : S224x1x256.Idx → EReal) (b : Fin 224) (j : Fin 16) (n : Fin 256) :
    broadcastTo S224x16x256 w broadcasts_S224x1x256_S224x16x256 (ix3 b j n) = w (ix3 b 0 n) := by
  refine broadcastTo_apply _ _ _ _ ?_
  intro a
  match a with
  | ⟨0, _⟩ => rfl
  | ⟨1, _⟩ => rfl
  | ⟨2, _⟩ => rfl

theorem cast_21 (w : S224x256.Idx → EReal) (b : Fin 224) (n : Fin 256) :
    shapeCast S224x1x256 w shapeCasts_S224x256_S224x1x256 (ix3 b 0 n) = w (ix2 b n) :=
  shapeCast_apply (s := S224x256) (t := S224x1x256) _ _ _ _ (by
    rw [rowMajor_val3 _ 256 256 rfl rfl, rowMajor_val2 _ 256 rfl]
    show b.val * 256 + n.val = b.val * 256 + 0 * 256 + n.val
    omega)

theorem wblk_apply (h : ℕ) (hh : h < 2) (q : Vec Ideal S3584x256 .i8) (k : Fin 3584) (n : Fin 256) :
    (wblk (BitVec.ofNat 32 (4 * h)) q (ix2 k n) : EReal) = (((wint h (q (ix2 k n)) : ℝ) * p2 (-9) : ℝ) : EReal) := by
  unfold wblk
  rw [bits_at, unpack_apply h hh, ofBits_wbyte h hh]

theorem sblk_apply (e : Vec Ideal S224x256 .i8) (i : S224x256.Idx) (he : -126 ≤ (e i).toInt) : (sblk e i : EReal) = ((p2 (e i).toInt : ℝ) : EReal) := by
  unfold sblk
  rw [bits_at, sword_eq _ he]

theorem scaled_apply (w : FVec Ideal S3584x256 .fp8e4m3) (z : FVec Ideal S224x256 .f32) (k : Fin 3584) (n : Fin 256) :
    (shapeCast S3584x256 (mulf (shapeCast S224x16x256 (extf .bf16 w bitsLt_fp8e4m3_bf16) shapeCasts_S3584x256_S224x16x256)
      (broadcastTo S224x16x256 (shapeCast S224x1x256 (truncf .bf16 z bitsLt_bf16_f32) shapeCasts_S224x256_S224x1x256) broadcasts_S224x1x256_S224x16x256)) shapeCasts_S224x16x256_S3584x256 (ix2 k n) : EReal)
      = (w (ix2 k n) : EReal) * (z (ix2 ⟨k.val / 16, by omega⟩ n) : EReal) := by
  refine (cast_32 _ k n).trans ?_
  rw [mulf_at]
  refine congrArg₂ (· * ·) ((cast_23 _ k n).trans (extf_at _ _ _)) ?_
  refine (bcast_3 _ _ _ _).trans ?_
  exact (cast_21 _ _ _).trans (truncf_at _ _ _)

theorem pay438_apply (h : ℕ) (hh : h < 2) (q : Vec Ideal S3584x256 .i8) (e : Vec Ideal S224x256 .i8) (k : Fin 3584) (n : Fin 256)
    (he : -126 ≤ (e (ix2 ⟨k.val / 16, by omega⟩ n)).toInt) :
    (k0_pay438 (F := Ideal) (BitVec.ofNat 32 (4 * h)) q e (ix2 k n) : EReal)
      = (((wint h (q (ix2 k n)) : ℝ) * p2 (-9) * p2 (e (ix2 ⟨k.val / 16, by omega⟩ n)).toInt : ℝ) : EReal) := by
  rw [pay438_unfold, scaled_apply, wblk_apply h hh, sblk_apply e _ he, coe_mul']

/-! ### The products -/

theorem dot_plain : dot_S256x3584_S3584x256_S256x256_1_0_0_1_n_n = DotDims.plain 256 3584 256 := rfl

theorem matmul_at (l : FVec Ideal S256x3584 .bf16) (w : FVec Ideal S3584x256 .bf16) (acc : FVec Ideal S256x256 .f32) (r : Fin 256) (n : Fin 256) :
    (matmul dot_S256x3584_S3584x256_S256x256_1_0_0_1_n_n none l w acc (ix2 r n) : EReal) = (acc (ix2 r n) : EReal) + ∑ k : Fin 3584, (l (ix2 r k) : EReal) * (w (ix2 k n) : EReal) := by
  have h := Ideal.matmul_plain_apply (M := 256) (K := 3584) (N := 256) none l w acc r n
  rw [ix2_same] at h
  simp only [ix2_same] at h
  exact h

theorem ofBits_z : Ideal.ofBits .f32 0x00000000#32 = 0 := by simp [Ideal.ofBits, Ideal.ieee]

theorem const_at {s : Shape} (b : BitVec 32) (i : s.Idx) : (constant (F := Ideal) s .f32 b i : EReal) = Ideal.ofBits .f32 b := rfl

theorem hblk_apply (h : ℕ) (hh : h < 2) (xop : FVec Ideal S256x3584 .bf16) (q : Vec Ideal S3584x256 .i8) (e : Vec Ideal S224x256 .i8)
    (a : Fin 256 → Fin 3584 → ℝ) (ha : ∀ r k, (xop (ix2 r k) : EReal) = ((a r k : ℝ) : EReal))
    (he : ∀ i, -126 ≤ (e i).toInt) (r : Fin 256) (n : Fin 256) :
    (hblk (BitVec.ofNat 32 (4 * h)) xop q e (ix2 r n) : EReal)
      = ((∑ k : Fin 3584, a r k * ((wint h (q (ix2 k n)) : ℝ) * p2 (e (ix2 ⟨k.val / 16, by omega⟩ n)).toInt) : ℝ) : EReal) := by
  unfold hblk
  rw [mulf_at, bc_at, sbits, ofBits_512, matmul_at, const_at]
  rw [ofBits_z, zero_add]
  rw [Finset.sum_congr rfl (fun k _ => by rw [ha, pay438_apply h hh q e k n (he _), coe_mul'] ), coe_sum, coe_mul', Finset.sum_mul]
  congr 1
  refine Finset.sum_congr rfl fun k _ => ?_
  have : p2 (-9) * p2 9 = 1 := by rw [← p2_add]; exact zpow_zero _
  linear_combination (a r k * (wint h (q (ix2 k n)) : ℝ) * p2 (e (ix2 ⟨k.val / 16, by omega⟩ n)).toInt) * this

end Cert.KernelIdeal.Run

end
-- ==== Proof.RI.Weights.lean ====
module

public import proofs.«01_k».proof.Proof.RI.Acts
public import proofs.«01_k».proof.Proof.Wint

@[expose] public section

set_option maxRecDepth 16384

noncomputable section

namespace Cert.ReferenceIdeal.Read

open Idealize.ShloMosaic Idealize.ShloMosaic.TcCoe
open Cert.ReferenceIdeal Cert.ReferenceIdeal.Gen
open Msfp

/-! What the reference computes from the weights, and its products. -/

abbrev XQ := (⟨S3584x9472, .i8⟩ : BufTy).Contents (Elt Ideal)
abbrev XE := (⟨S224x18944, .i8⟩ : BufTy).Contents (Elt Ideal)

theorem mulf_at (φ : FTy) (a b : Ideal φ) : (FloatOps.mulf a b : EReal) = (a : EReal) * (b : EReal) := rfl
theorem truncf_at (a : Ideal .f32) : (FloatOps.truncf .bf16 bitsLt_bf16_f32 a : EReal) = (a : EReal) := rfl

/-! ### The activations the products take -/

/-- An activation as the products take it. -/
def ac (x0 : X0) (r : Fin 256) (k : Fin 3584) : ℝ :=
  (rC x0 r ⟨k.val / 16, by omega⟩ ⟨k.val % 16, by omega⟩ : ℝ) * p2 (eI x0 r ⟨k.val / 16, by omega⟩ - 3)

theorem v61_at (x0 : X0) (r : Fin 256) (b : Fin 224) : (val_main_v61 (F := Ideal) x0 (ix3 0 r b) : EReal) = ((p2 (eI x0 r b - 3) : ℝ) : EReal) := by
  rw [val_main_v61_apply, truncf_at, val_main_v60_apply, val_main_v59_apply, val_main_cst_13_apply, val_main_v58_apply, v39_at,
    pow_host, ofBits_at, two_bits, sitofp_at, (sub_at _ (eI_ge x0 r b).1 (eI_ge x0 r b).2).2.2, pow_two_int]

theorem idx63 (r : Fin 256) (b : Fin 224) (j : Fin 16) : idx_main_v62 (idx_main_v63 (ix4 0 r b j)) = ix3 0 r b := by
  funext a; match a with
  | ⟨0, _⟩ => rfl
  | ⟨1, _⟩ => rfl
  | ⟨2, _⟩ => rfl

theorem idx65 (r : Fin 256) (k : Fin 3584) : idx_main_v65 (ix3 0 r k) = ix4 0 r ⟨k.val / 16, by omega⟩ ⟨k.val % 16, by omega⟩ := by
  funext a; apply Fin.ext
  match a with
  | ⟨0, _⟩ => rfl
  | ⟨1, _⟩ => show ((0 * 256 + r.val) * 3584 + k.val) / 3584 % 256 = r.val; omega
  | ⟨2, _⟩ => show ((0 * 256 + r.val) * 3584 + k.val) / 16 % 224 = k.val / 16; omega
  | ⟨3, _⟩ => show ((0 * 256 + r.val) * 3584 + k.val) % 16 = k.val % 16; omega

theorem v65_at (x0 : X0) (hx : Fin0 x0) (r : Fin 256) (k : Fin 3584) : (val_main_v65 (F := Ideal) x0 (ix3 0 r k) : EReal) = ((ac x0 r k : ℝ) : EReal) := by
  rw [val_main_v65_apply, idx65, val_main_v64_apply, mulf_at, v57_at x0 hx, val_main_v63_apply, val_main_v62_apply, idx63, v61_at, coe_mul']
  rfl

/-! ### The weights -/

theorem low_table : ∀ n : Fin 256, (IntOp.muli (IntOp.andi (IntOp.andi ((BitVec.ofNat 8 n.val).setWidth 32) 15#32) 7#32)
      (IntOp.subi 1#32 (IntOp.muli 2#32 (IntOp.shrsi .host (IntOp.andi ((BitVec.ofNat 8 n.val).setWidth 32) 15#32) 3#32)))).toInt = wint 0 (BitVec.ofNat 8 n.val) := by
  decide +kernel

theorem high_table : ∀ n : Fin 256, (IntOp.muli (IntOp.andi (IntOp.shrsi .host ((BitVec.ofNat 8 n.val).setWidth 32) 4#32) 7#32)
      (IntOp.subi 1#32 (IntOp.muli 2#32 (IntOp.shrsi .host (IntOp.shrsi .host ((BitVec.ofNat 8 n.val).setWidth 32) 4#32) 3#32)))).toInt = wint 1 (BitVec.ofNat 8 n.val) := by
  decide +kernel

theorem sext_table : ∀ n : Fin 256, ((BitVec.ofNat 8 n.val).signExtend 32).toInt = (BitVec.ofNat 8 n.val).toInt := by decide +kernel

theorem low_eq (q : BitVec 8) : (IntOp.muli (IntOp.andi (IntOp.andi (q.setWidth 32) 15#32) 7#32)
      (IntOp.subi 1#32 (IntOp.muli 2#32 (IntOp.shrsi .host (IntOp.andi (q.setWidth 32) 15#32) 3#32)))).toInt = wint 0 q := by
  have h := low_table ⟨q.toNat, q.isLt⟩
  dsimp only at h
  rwa [BitVec.ofNat_toNat, BitVec.setWidth_eq] at h

theorem high_eq (q : BitVec 8) : (IntOp.muli (IntOp.andi (IntOp.shrsi .host (q.setWidth 32) 4#32) 7#32)
      (IntOp.subi 1#32 (IntOp.muli 2#32 (IntOp.shrsi .host (IntOp.shrsi .host (q.setWidth 32) 4#32) 3#32)))).toInt = wint 1 q := by
  have h := high_table ⟨q.toNat, q.isLt⟩
  dsimp only at h
  rwa [BitVec.ofNat_toNat, BitVec.setWidth_eq] at h

theorem sext_eq (e : BitVec 8) : (e.signExtend 32).toInt = e.toInt := by
  have h := sext_table ⟨e.toNat, e.isLt⟩
  dsimp only at h
  rwa [BitVec.ofNat_toNat, BitVec.setWidth_eq] at h

theorem v81_at (q : XQ) (k : Fin 3584) (n : Fin 9472) : (val_main_v81 (F := Ideal) q (ix2 k n) : EReal) = ((wint 0 (q (ix2 k n)) : ℝ) : EReal) := by
  rw [val_main_v81_apply, truncf_at, val_main_v80_apply, val_main_v79_apply, val_main_v72_apply, val_main_v69_apply, val_main_v67_apply, val_main_v68_apply, val_main_c_14_apply,
    val_main_v71_apply, val_main_c_15_apply, val_main_v78_apply, val_main_v77_apply, val_main_c_18_apply, val_main_v76_apply, val_main_v75_apply, val_main_c_17_apply,
    val_main_v74_apply, val_main_v73_apply, val_main_c_16_apply, val_main_v69_apply, val_main_v67_apply, val_main_v68_apply, val_main_c_14_apply, sitofp_at, low_eq]

theorem v104_at (q : XQ) (k : Fin 3584) (n : Fin 9472) : (val_main_v104 (F := Ideal) q (ix2 k n) : EReal) = ((wint 1 (q (ix2 k n)) : ℝ) : EReal) := by
  rw [val_main_v104_apply, truncf_at, val_main_v103_apply, val_main_v102_apply, val_main_v95_apply, val_main_v92_apply, val_main_v67_apply, val_main_v91_apply, val_main_c_20_apply,
    val_main_v94_apply, val_main_c_21_apply, val_main_v101_apply, val_main_v100_apply, val_main_c_24_apply, val_main_v99_apply, val_main_v98_apply, val_main_c_23_apply,
    val_main_v97_apply, val_main_v96_apply, val_main_c_22_apply, val_main_v92_apply, val_main_v67_apply, val_main_v91_apply, val_main_c_20_apply, sitofp_at, high_eq]

theorem v86_at (e : XE) (i : S224x9472.Idx) : (val_main_v86 (F := Ideal) e i : EReal) = ((p2 (e (idx_main_v70 i)).toInt : ℝ) : EReal) := by
  rw [val_main_v86_apply, truncf_at, val_main_v85_apply, val_main_v84_apply, val_main_cst_19_apply, val_main_v83_apply, val_main_v70_apply, val_main_v66_apply,
    pow_host, ofBits_at, two_bits, sitofp_at, sext_eq, pow_two_int]

theorem v109_at (e : XE) (i : S224x9472.Idx) : (val_main_v109 (F := Ideal) e i : EReal) = ((p2 (e (idx_main_v93 i)).toInt : ℝ) : EReal) := by
  rw [val_main_v109_apply, truncf_at, val_main_v108_apply, val_main_v107_apply, val_main_cst_25_apply, val_main_v106_apply, val_main_v93_apply, val_main_v66_apply,
    pow_host, ofBits_at, two_bits, sitofp_at, sext_eq, pow_two_int]

theorem idx90 (k : Fin 3584) (n : Fin 9472) : idx_main_v90 (ix2 k n) = ix3 ⟨k.val / 16, by omega⟩ ⟨k.val % 16, by omega⟩ n := by
  funext a; apply Fin.ext
  match a with
  | ⟨0, _⟩ => show (k.val * 9472 + n.val) / 151552 = k.val / 16; omega
  | ⟨1, _⟩ => show (k.val * 9472 + n.val) / 9472 % 16 = k.val % 16; omega
  | ⟨2, _⟩ => show (k.val * 9472 + n.val) % 9472 = n.val; omega

theorem idx113 (k : Fin 3584) (n : Fin 9472) : idx_main_v113 (ix2 k n) = ix3 ⟨k.val / 16, by omega⟩ ⟨k.val % 16, by omega⟩ n := idx90 k n

theorem idx82 (k : Fin 3584) (n : Fin 9472) : idx_main_v82 (ix3 ⟨k.val / 16, by omega⟩ ⟨k.val % 16, by omega⟩ n) = ix2 k n := by
  funext a; apply Fin.ext
  match a with
  | ⟨0, _⟩ => show ((k.val / 16 * 16 + k.val % 16) * 9472 + n.val) / 9472 = k.val; omega
  | ⟨1, _⟩ => show ((k.val / 16 * 16 + k.val % 16) * 9472 + n.val) % 9472 = n.val; omega

theorem idx105 (k : Fin 3584) (n : Fin 9472) : idx_main_v105 (ix3 ⟨k.val / 16, by omega⟩ ⟨k.val % 16, by omega⟩ n) = ix2 k n := idx82 k n

theorem idx70 (b : Fin 224) (j : Fin 16) (n : Fin 9472) : idx_main_v70 (idx_main_v87 (idx_main_v88 (ix3 b j n))) = ix2 b ⟨n.val, by omega⟩ := by
  funext a; apply Fin.ext
  match a with
  | ⟨0, _⟩ => rfl
  | ⟨1, _⟩ => rfl

theorem idx93 (b : Fin 224) (j : Fin 16) (n : Fin 9472) : idx_main_v93 (idx_main_v110 (idx_main_v111 (ix3 b j n))) = ix2 b ⟨9472 + n.val, by omega⟩ := by
  funext a; apply Fin.ext
  match a with
  | ⟨0, _⟩ => rfl
  | ⟨1, _⟩ => rfl

theorem v90_at (q : XQ) (e : XE) (k : Fin 3584) (n : Fin 9472) : (val_main_v90 (F := Ideal) q e (ix2 k n) : EReal)
    = (((wint 0 (q (ix2 k n)) : ℝ) * p2 (e (ix2 ⟨k.val / 16, by omega⟩ ⟨n.val, by omega⟩)).toInt : ℝ) : EReal) := by
  rw [val_main_v90_apply, idx90, val_main_v89_apply, mulf_at, val_main_v82_apply, idx82, v81_at, val_main_v88_apply, val_main_v87_apply, v86_at, idx70, coe_mul']

theorem v113_at (q : XQ) (e : XE) (k : Fin 3584) (n : Fin 9472) : (val_main_v113 (F := Ideal) q e (ix2 k n) : EReal)
    = (((wint 1 (q (ix2 k n)) : ℝ) * p2 (e (ix2 ⟨k.val / 16, by omega⟩ ⟨9472 + n.val, by omega⟩)).toInt : ℝ) : EReal) := by
  rw [val_main_v113_apply, idx113, val_main_v112_apply, mulf_at, val_main_v105_apply, idx105, v104_at, val_main_v111_apply, val_main_v110_apply, v109_at, idx93, coe_mul']

/-! ### The products -/

/-- A product at a row and a column. -/
def hR (x0 : X0) (q : XQ) (e : XE) (r : Fin 256) (n : Fin 18944) : ℝ :=
  ∑ k : Fin 3584, ac x0 r k * ((wint (n.val / 9472) (q (ix2 k ⟨n.val % 9472, by omega⟩)) : ℝ) * p2 (e (ix2 ⟨k.val / 16, by omega⟩ n)).toInt)

theorem lidx114 (r : Fin 256) (n : Fin 9472) (k : Fin 3584) : lidx_main_v114 (ix3 0 r n) k = ix3 0 r k := by
  funext a; match a with
  | ⟨0, _⟩ => rfl
  | ⟨1, _⟩ => rfl
  | ⟨2, _⟩ => rfl

theorem ridx114 (r : Fin 256) (n : Fin 9472) (k : Fin 3584) : ridx_main_v114 (ix3 0 r n) k = ix2 k n := by
  funext a; match a with
  | ⟨0, _⟩ => rfl
  | ⟨1, _⟩ => rfl

theorem lidx115 (r : Fin 256) (n : Fin 9472) (k : Fin 3584) : lidx_main_v115 (ix3 0 r n) k = ix3 0 r k := lidx114 r n k
theorem ridx115 (r : Fin 256) (n : Fin 9472) (k : Fin 3584) : ridx_main_v115 (ix3 0 r n) k = ix2 k n := ridx114 r n k

theorem v114_at (x0 : X0) (hx : Fin0 x0) (q : XQ) (e : XE) (r : Fin 256) (n : Fin 9472) :
    (val_main_v114 (F := Ideal) x0 q e (ix3 0 r n) : EReal) = ((hR x0 q e r ⟨n.val, by omega⟩ : ℝ) : EReal) := by
  rw [val_main_v114_apply]
  have t : ∀ k : Fin 3584, ((val_main_v65 (F := Ideal) x0 (lidx_main_v114 (ix3 0 r n) k) : EReal) * (val_main_v90 (F := Ideal) q e (ridx_main_v114 (ix3 0 r n) k) : EReal))
      = ((ac x0 r k * ((wint 0 (q (ix2 k n)) : ℝ) * p2 (e (ix2 ⟨k.val / 16, by omega⟩ ⟨n.val, by omega⟩)).toInt) : ℝ) : EReal) := fun k => by
    rw [lidx114, ridx114, v65_at x0 hx, v90_at, coe_mul']
  refine (Finset.sum_congr rfl fun k _ => t k).trans ?_
  rw [coe_sum]
  unfold hR
  congr 1
  refine Finset.sum_congr rfl fun k _ => ?_
  rw [show n.val / 9472 = 0 by omega, show (⟨n.val % 9472, by omega⟩ : Fin 9472) = n from Fin.ext (by show n.val % 9472 = n.val; omega)]

theorem v115_at (x0 : X0) (hx : Fin0 x0) (q : XQ) (e : XE) (r : Fin 256) (n : Fin 9472) :
    (val_main_v115 (F := Ideal) x0 q e (ix3 0 r n) : EReal) = ((hR x0 q e r ⟨9472 + n.val, by omega⟩ : ℝ) : EReal) := by
  rw [val_main_v115_apply]
  have t : ∀ k : Fin 3584, ((val_main_v65 (F := Ideal) x0 (lidx_main_v115 (ix3 0 r n) k) : EReal) * (val_main_v113 (F := Ideal) q e (ridx_main_v115 (ix3 0 r n) k) : EReal))
      = ((ac x0 r k * ((wint 1 (q (ix2 k n)) : ℝ) * p2 (e (ix2 ⟨k.val / 16, by omega⟩ ⟨9472 + n.val, by omega⟩)).toInt) : ℝ) : EReal) := fun k => by
    rw [lidx115, ridx115, v65_at x0 hx, v113_at, coe_mul']
  refine (Finset.sum_congr rfl fun k _ => t k).trans ?_
  rw [coe_sum]
  unfold hR
  congr 1
  refine Finset.sum_congr rfl fun k _ => ?_
  rw [show (9472 + n.val) / 9472 = 1 by omega, show (⟨(9472 + n.val) % 9472, by omega⟩ : Fin 9472) = n from Fin.ext (by show (9472 + n.val) % 9472 = n.val; omega)]

theorem v116_at (x0 : X0) (hx : Fin0 x0) (q : XQ) (e : XE) (r : Fin 256) (n : Fin 18944) :
    (val_main_v116 (F := Ideal) x0 q e (ix3 0 r n) : EReal) = ((hR x0 q e r n : ℝ) : EReal) := by
  unfold val_main_v116
  by_cases h : n.val < 9472
  · refine (concatenate_pair_apply_left (t := S1x256x18944) (s₁ := S1x256x9472) (s₂ := S1x256x9472) 2 _ _ _ (ix3 0 r n) rfl (ix3 0 r ⟨n.val, h⟩) (fun b => ?_)).trans
      (v114_at x0 hx q e r ⟨n.val, h⟩)
    match b with
    | ⟨0, _⟩ => rfl
    | ⟨1, _⟩ => rfl
    | ⟨2, _⟩ => rfl
  · have e' : (⟨9472 + (n.val - 9472), by omega⟩ : Fin 18944) = n := Fin.ext (by show 9472 + (n.val - 9472) = n.val; omega)
    refine (concatenate_pair_apply_right (t := S1x256x18944) (s₁ := S1x256x9472) (s₂ := S1x256x9472) 2 _ _ _ (ix3 0 r n) rfl rfl (ix3 0 r ⟨n.val - 9472, by omega⟩) (fun b hb => ?_) ?_).trans
      ((v115_at x0 hx q e r ⟨n.val - 9472, by omega⟩).trans (by rw [e']))
    · match b, hb with
      | ⟨0, _⟩, _ => rfl
      | ⟨1, _⟩, _ => rfl
      | ⟨2, _⟩, hb => exact absurd rfl hb
    · show n.val - 9472 + 9472 = n.val
      omega

theorem v167_eq (x0 : X0) (q : XQ) (e : XE) : val_main_v167 (F := Ideal) x0 q e = val_main_v116 (F := Ideal) x0 q e := rfl

/-- The first result at a row and a column, from its two products. -/
def yv (a b : EReal) : EReal := (a * Ideal.div 1 (1 + Ideal.exp (-a))) * b

theorem one_bits : Ideal.ofBits .f32 0x3F800000#32 = 1 := by simp [Ideal.ofBits, Ideal.ieee, -EReal.coe_mul]; norm_num

theorem silu_at (o a : Ideal .f32) (h : (o : EReal) = 1) : (FloatOps.mulf a (FloatOps.hostDivf o (FloatOps.addf o (FloatOps.hostUnary .exp (FloatOps.hostNegf a)))) : EReal)
    = (a : EReal) * Ideal.div 1 (1 + Ideal.exp (-(a : EReal))) := by
  subst h
  rfl

theorem idx172 (r : Fin 256) (n : Fin 18944) : idx_main_v172 (ix2 r n) = ix3 0 r n := by
  funext a; apply Fin.ext
  match a with
  | ⟨0, _⟩ => rfl
  | ⟨1, _⟩ => show (r.val * 18944 + n.val) / 18944 % 256 = r.val; omega
  | ⟨2, _⟩ => show (r.val * 18944 + n.val) % 18944 = n.val; omega

theorem v172_at (x0 : X0) (hx : Fin0 x0) (q1 : XQ) (e1 : XE) (q2 : XQ) (e2 : XE) (r : Fin 256) (n : Fin 18944) :
    (val_main_v172 (F := Ideal) x0 q1 e1 q2 e2 (ix2 r n) : EReal) = yv ((hR x0 q1 e1 r n : ℝ) : EReal) ((hR x0 q2 e2 r n : ℝ) : EReal) := by
  rw [val_main_v172_apply, idx172, val_main_v170_apply, truncf_at, val_main_v169_apply, mulf_at, v167_eq, v116_at x0 hx, val_main_v168_apply, val_main_call1_v5_apply,
    val_main_call1_v4_apply, val_main_call1_cst_0_apply, val_main_call1_v3_apply, val_main_call1_v2_apply, val_main_call1_cst_apply, val_main_call1_v1_apply, val_main_call1_v0_apply]
  unfold yv
  congr 1
  refine (silu_at _ _ one_bits).trans ?_
  rw [v116_at x0 hx]

end Cert.ReferenceIdeal.Read

end
-- ==== Proof.Eq.Y.lean ====
module

public import proofs.«01_k».proof.Proof.Eq.Pre
public import proofs.«01_k».proof.Proof.KI.Blocks
public import proofs.«01_k».proof.Proof.KI.Weights
public import proofs.«01_k».proof.Proof.KI.Codes
public import proofs.«01_k».proof.Proof.RI.Weights

@[expose] public section

set_option maxRecDepth 16384

noncomputable section

namespace Cert.KernelIdeal.Run

open Idealize.ShloMosaic Idealize.ShloMosaic.TcCoe
open Cert.KernelIdeal Cert.KernelIdeal.Gen
open Cert.ReferenceIdeal.Read (X0 rA mag lane rA_le eI eI_ge xR coe_xR rC ac hR Fin0 fin_of_pre)
open Msfp

variable (m : (ℓ : Loc nD τ sig) → Buf (Elt Ideal) ℓ) (c : Dev nD)

/-! The kernel's tiles and its first result against the reference's reading of the same arguments. -/

/-- The activations. -/
abbrev A0 : X0 := m ((c : Thread nD τ).loc main_arg0)

/-- Tile `b` of the activations: 128 lanes. -/
abbrev tile (b : ℕ) (h : b < 28) : FVec Ideal S256x128 .bf16 := tl (ms0_0 pt0) (hs0_0 pt0) (iblk m c 0 pt0) b h

/-- What the precondition says of the activations. -/
def Range : Prop := ∀ r b, rA (A0 m c) r b < ⊤ ∧ (rA (A0 m c) r b = 0 ∨ ((p2 (-125) : ℝ) : EReal) ≤ rA (A0 m c) r b)

theorem tile_at (b : ℕ) (h : b < 28) (r : Fin 256) (l : Fin 128) :
    (tile m c b h (ix2 r l) : EReal) = A0 m c (ix3 0 r ⟨128 * b + l.val, by omega⟩) :=
  (tl_apply (ms0_0 pt0) (hs0_0 pt0) (iblk m c 0 pt0) b h r l).trans (iblk0_apply m c pt0 r ⟨128 * b + l.val, by omega⟩)

theorem amag_tile (b : ℕ) (h : b < 28) (r : Fin 256) (l : Fin 128) (j : Fin 16) :
    amag (tile m c b h) r (bl l j) = mag (A0 m c) r (lane ⟨8 * b + l.val / 16, by omega⟩ j) := by
  have e : (⟨128 * b + (bl l j).val, by omega⟩ : Fin 3584) = lane ⟨8 * b + l.val / 16, by omega⟩ j := by
    apply Fin.ext
    show 128 * b + (16 * (l.val / 16) + j.val) = 16 * (8 * b + l.val / 16) + j.val
    omega
  unfold amag mag
  rw [tile_at, e]

theorem tile_max (b : ℕ) (h : b < 28) (r : Fin 256) (l : Fin 128) :
    (tmax (tile m c b h) (ix2 r l) : EReal) = rA (A0 m c) r ⟨8 * b + l.val / 16, by omega⟩ :=
  eq_of_forall_ge_iff fun x => (tmax_le _ r l x).trans ((forall_congr' fun j => by rw [amag_tile]).trans (rA_le _ r _ x).symm)

variable (hp : Range m c)

include hp

theorem tile_good (b : ℕ) (h : b < 28) : Good (tile m c b h) := fun r l => by
  rw [tile_max]
  exact hp r _

theorem range_fin : Fin0 (A0 m c) := fin_of_pre _ fun r b => (hp r b).1

theorem tile_tR (b : ℕ) (h : b < 28) (r : Fin 256) (l : Fin 128) : tR (tile m c b h) r l = xR (A0 m c) r ⟨128 * b + l.val, by omega⟩ := by
  unfold tR xR
  rw [tile_at]

theorem tile_cases (b : ℕ) (h : b < 28) (r : Fin 256) (l : Fin 128) :
    (2 ≤ tE (tile m c b h) r l ∧ eI (A0 m c) r ⟨8 * b + l.val / 16, by omega⟩ = (tE (tile m c b h) r l : ℤ) - 126)
      ∨ (tE (tile m c b h) r l = 0 ∧ eI (A0 m c) r ⟨8 * b + l.val / 16, by omega⟩ = 0 ∧ xR (A0 m c) r ⟨128 * b + l.val, by omega⟩ = 0) := by
  have hE : tE (tile m c b h) r l = Ef (rA (A0 m c) r ⟨8 * b + l.val / 16, by omega⟩) := by
    unfold tE
    rw [tile_max]
  by_cases h0 : rA (A0 m c) r ⟨8 * b + l.val / 16, by omega⟩ = 0
  · refine Or.inr ⟨?_, by unfold eI; rw [if_pos h0], ?_⟩
    · rw [hE, h0, Ef_zero]
    · rw [← tile_tR m c hp b h r l]
      unfold tR
      rw [zero_of_zero (tile m c b h) r l ((tile_max m c b h r l).trans h0)]
      rfl
  · refine Or.inl ⟨?_, by unfold eI; rw [if_neg h0, hE]⟩
    rcases (hp r ⟨8 * b + l.val / 16, by omega⟩).2 with h1 | h1
    · exact absurd h1 h0
    · rw [hE]; exact two_le_Ef h1

theorem tile_tC (b : ℕ) (h : b < 28) (r : Fin 256) (l : Fin 128) :
    tC (tile m c b h) r l = rC (A0 m c) r ⟨8 * b + l.val / 16, by omega⟩ ⟨l.val % 16, by omega⟩ := by
  have e : lane ⟨8 * b + l.val / 16, by omega⟩ ⟨l.val % 16, by omega⟩ = (⟨128 * b + l.val, by omega⟩ : Fin 3584) := by
    apply Fin.ext
    show 16 * (8 * b + l.val / 16) + l.val % 16 = 128 * b + l.val
    omega
  unfold tC rC
  rw [e, tile_tR m c hp]
  rcases tile_cases m c hp b h r l with ⟨h1, h2⟩ | ⟨h1, h2, h3⟩
  · rw [h2, show (3 : ℤ) - ((tE (tile m c b h) r l : ℤ) - 126) = 129 - (tE (tile m c b h) r l : ℤ) by omega]
  · rw [h3, zero_mul, zero_mul]

theorem XOP_at (r : Fin 256) (k : Fin 3584) : (XOP m c (ix2 r k) : EReal) = ((ac (A0 m c) r k : ℝ) : EReal) := by
  have hk : k.val / 128 < 28 := by omega
  have e1 : (⟨8 * (k.val / 128) + k.val % 128 / 16, by omega⟩ : Fin 224) = ⟨k.val / 16, by omega⟩ := Fin.ext (by show 8 * (k.val / 128) + k.val % 128 / 16 = k.val / 16; omega)
  have e2 : (⟨k.val % 128 % 16, by omega⟩ : Fin 16) = ⟨k.val % 16, by omega⟩ := Fin.ext (by show k.val % 128 % 16 = k.val % 16; omega)
  rw [XOP_eq, xop_read]
  refine (txop_apply _ (tile_good m c hp (k.val / 128) hk) r ⟨k.val % 128, by omega⟩).trans ?_
  have hc := tile_tC m c hp (k.val / 128) hk r ⟨k.val % 128, by omega⟩
  have hE := tile_cases m c hp (k.val / 128) hk r ⟨k.val % 128, by omega⟩
  dsimp only at hc hE
  rw [e1, e2] at hc
  rw [e1] at hE
  unfold ac
  rw [hc]
  rcases hE with ⟨h1, h2⟩ | ⟨h1, h2, h3⟩
  · rw [h2, show ((tE (tile m c (k.val / 128) hk) r ⟨k.val % 128, by omega⟩ : ℤ) - 126) - 3 = (tE (tile m c (k.val / 128) hk) r ⟨k.val % 128, by omega⟩ : ℤ) - 129 by omega]
  · have e3 : lane ⟨k.val / 16, by omega⟩ ⟨k.val % 16, by omega⟩ = (⟨128 * (k.val / 128) + k.val % 128, by omega⟩ : Fin 3584) := by
      apply Fin.ext
      show 16 * (k.val / 16) + k.val % 16 = 128 * (k.val / 128) + k.val % 128
      omega
    have hz : rC (A0 m c) r ⟨k.val / 16, by omega⟩ ⟨k.val % 16, by omega⟩ = 0 := by
      unfold rC
      rw [e3, h3, zero_mul, code_zero]
    rw [hz, Int.cast_zero, zero_mul, zero_mul]

variable (he1 : ∀ i, -126 ≤ (m ((c : Thread nD τ).loc main_arg2) i : BitVec 8).toInt) (he2 : ∀ i, -126 ≤ (m ((c : Thread nD τ).loc main_arg4) i : BitVec 8).toInt)

theorem h1_at (t : Fin cfg0.N) (he1 : ∀ i, -126 ≤ (m ((c : Thread nD τ).loc main_arg2) i : BitVec 8).toInt) (r n : Fin 256) (N : Fin 18944) (hN : N.val = t.val * 256 + n.val) :
    (hblk (shf (grid0.coords t)) (XOP m c) (iblk m c 1 t) (iblk m c 2 t) (ix2 r n) : EReal)
      = ((hR (A0 m c) (m ((c : Thread nD τ).loc main_arg1)) (m ((c : Thread nD τ).loc main_arg2)) r N : ℝ) : EReal) := by
  have ht : t.val < 74 := lt_of_lt_of_eq t.isLt N_0
  rw [shf_eq]
  refine (hblk_apply (t.val / 37) (by omega) (XOP m c) (iblk m c 1 t) (iblk m c 2 t) (ac (A0 m c)) (XOP_at m c hp)
    (fun i => by obtain ⟨b, n', rfl⟩ : ∃ b n', i = ix2 b n' := ⟨i 0, i 1, eq_ix2 i⟩; rw [iblk2_apply]; exact he1 _) r n).trans ?_
  unfold hR
  refine congrArg _ (Finset.sum_congr rfl fun k _ => ?_)
  rw [iblk1_apply, iblk2_apply]
  have a1 : (⟨t.val % 37 * 256 + n.val, by omega⟩ : Fin 9472) = ⟨N.val % 9472, by omega⟩ := Fin.ext (by show t.val % 37 * 256 + n.val = N.val % 9472; omega)
  have a2 : t.val / 37 = N.val / 9472 := by omega
  have a3 : (⟨t.val * 256 + n.val, by omega⟩ : Fin 18944) = N := Fin.ext hN.symm
  rw [a1, a2, a3]

theorem h2_at (t : Fin cfg0.N) (he2 : ∀ i, -126 ≤ (m ((c : Thread nD τ).loc main_arg4) i : BitVec 8).toInt) (r n : Fin 256) (N : Fin 18944) (hN : N.val = t.val * 256 + n.val) :
    (hblk (shf (grid0.coords t)) (XOP m c) (iblk m c 3 t) (iblk m c 4 t) (ix2 r n) : EReal)
      = ((hR (A0 m c) (m ((c : Thread nD τ).loc main_arg3)) (m ((c : Thread nD τ).loc main_arg4)) r N : ℝ) : EReal) := by
  have ht : t.val < 74 := lt_of_lt_of_eq t.isLt N_0
  rw [shf_eq]
  refine (hblk_apply (t.val / 37) (by omega) (XOP m c) (iblk m c 3 t) (iblk m c 4 t) (ac (A0 m c)) (XOP_at m c hp)
    (fun i => by obtain ⟨b, n', rfl⟩ : ∃ b n', i = ix2 b n' := ⟨i 0, i 1, eq_ix2 i⟩; rw [iblk4_apply]; exact he2 _) r n).trans ?_
  unfold hR
  refine congrArg _ (Finset.sum_congr rfl fun k _ => ?_)
  rw [iblk3_apply, iblk4_apply]
  have a1 : (⟨t.val % 37 * 256 + n.val, by omega⟩ : Fin 9472) = ⟨N.val % 9472, by omega⟩ := Fin.ext (by show t.val % 37 * 256 + n.val = N.val % 9472; omega)
  have a2 : t.val / 37 = N.val / 9472 := by omega
  have a3 : (⟨t.val * 256 + n.val, by omega⟩ : Fin 18944) = N := Fin.ext hN.symm
  rw [a1, a2, a3]

omit hp in
theorem yblk_at (s : BitVec 32) (xop : FVec Ideal S256x3584 .bf16) (q1 : Vec Ideal S3584x256 .i8) (e1 : Vec Ideal S224x256 .i8) (q2 : Vec Ideal S3584x256 .i8) (e2 : Vec Ideal S224x256 .i8) (i : S256x256.Idx) :
    (yblk s xop q1 e1 q2 e2 i : EReal) = Cert.ReferenceIdeal.Read.yv (hblk s xop q1 e1 i) (hblk s xop q2 e2 i) := rfl

/-- The first result. -/
theorem G5_at (he1 : ∀ i, -126 ≤ (m ((c : Thread nD τ).loc main_arg2) i : BitVec 8).toInt) (he2 : ∀ i, -126 ≤ (m ((c : Thread nD τ).loc main_arg4) i : BitVec 8).toInt) (r : Fin 256) (n : Fin 18944) :
    (G5 m c (ix2 r n) : EReal) = Cert.ReferenceIdeal.Read.val_main_v172 (F := Ideal) (A0 m c) (m ((c : Thread nD τ).loc main_arg1)) (m ((c : Thread nD τ).loc main_arg2))
      (m ((c : Thread nD τ).loc main_arg3)) (m ((c : Thread nD τ).loc main_arg4)) (ix2 r n) := by
  refine Eq.trans ?_ (Cert.ReferenceIdeal.Read.v172_at (A0 m c) (range_fin m c hp) _ _ _ _ r n).symm
  have hb : (blkOf (ix2 r n)).val = n.val / 256 := rfl
  have hl : locOf (ix2 r n) = ix2 r ⟨n.val % 256, by omega⟩ := by
    funext a; apply Fin.ext
    match a with
    | ⟨0, _⟩ => rfl
    | ⟨1, _⟩ => rfl
  unfold G5
  rw [YB_eq, yblk_at, hl, h1_at m c hp _ he1 r ⟨n.val % 256, by omega⟩ n (by rw [hb]; show n.val = n.val / 256 * 256 + n.val % 256; omega),
    h2_at m c hp _ he2 r ⟨n.val % 256, by omega⟩ n (by rw [hb]; show n.val = n.val / 256 * 256 + n.val % 256; omega)]

end Cert.KernelIdeal.Run

end
-- ==== Proof.KI.ExpoBytes.lean ====
module

public import proofs.«01_k».proof.Proof.KI.Expo
public import proofs.«01_k».proof.Proof.KI.Reads
public import proofs.«01_k».proof.Proof.KI.Value

@[expose] public section

set_option maxRecDepth 16384

noncomputable section

namespace Cert.KernelIdeal.Run

open Idealize.ShloMosaic Idealize.ShloMosaic.TcCoe
open Cert.KernelIdeal Cert.KernelIdeal.Gen
open Msfp

/-! The exponent bytes. -/

theorem gat_table : ∀ l : Fin 128, (wr (IntOp.muli (IntOp.andi (BitVec.ofNat 32 l.val) 7#32) 16#32)).toNat % 128 = 16 * (l.val % 8) := by decide +kernel

theorem gat_unfold (p l : Fin 128) : muli (andi laneB (broadcast S128x128 7#32)) (broadcast S128x128 16#32) (ix2 p l) = IntOp.muli (IntOp.andi (laneB (ix2 p l)) 7#32) 16#32 := rfl

theorem tgat_apply (x : FVec Ideal S256x128 .bf16) (p l : Fin 128) : tgat x (ix2 p l) = tew x (ix2 p ⟨16 * (l.val % 8), by omega⟩) := by
  unfold tgat
  rw [gatherB, wrapB_apply, gat_unfold, laneB_apply]
  congr 2
  exact Fin.ext (gat_table l)

/-- A lane index over eight, as the kernel computes it. -/
def l8 (v : BitVec 32) : BitVec 32 :=
  Scalar.select (IntOp.andi (IntOp.cmpi .ne (IntOp.subi ((IntOp.cmpi .sgt v 0#32).setWidth 32) ((IntOp.cmpi .slt v 0#32).setWidth 32))
      (Scalar.subi (Scalar.extui (Scalar.cmpi .sgt 8#32 0#32)) (Scalar.extui (Scalar.cmpi .slt 8#32 0#32))))
      (IntOp.cmpi .ne (IntOp.remsi .vector v 8#32) 0#32))
    (IntOp.subi (IntOp.divsi .vector v 8#32) 1#32) (IntOp.divsi .vector v 8#32)

theorem lane8_unfold (p l : Fin 128) : lane8 (ix2 p l) = l8 (laneB (ix2 p l)) := rfl

theorem l8_table : ∀ l : Fin 128, ∀ n : Fin 16, Scalar.select (IntOp.cmpi .eq (l8 (BitVec.ofNat 32 l.val)) (BitVec.ofNat 32 n.val)) true false = decide (l.val / 8 = n.val) := by decide +kernel

theorem tsel_unfold (c : BitVec 32) (x : FVec Ideal S256x128 .bf16) (a : IVec S128x128 32) (p l : Fin 128) :
    tsel c x a (ix2 p l) = Scalar.select (IntOp.cmpi .eq (lane8 (ix2 p l)) c) (tgat x (ix2 p l)) (a (ix2 p l)) := rfl

theorem tsel_apply (n : ℕ) (hn : n < 16) (x : FVec Ideal S256x128 .bf16) (a : IVec S128x128 32) (p l : Fin 128) :
    tsel (BitVec.ofNat 32 n) x a (ix2 p l) = if l.val / 8 = n then tgat x (ix2 p l) else a (ix2 p l) := by
  have t := l8_table l ⟨n, hn⟩
  dsimp only at t
  rw [tsel_unfold, lane8_unfold, laneB_apply]
  unfold Scalar.select at t ⊢
  by_cases h : l.val / 8 = n
  · rw [if_pos h]
    split_ifs with h1
    · rfl
    · rw [if_neg h1] at t; simp [h] at t
  · rw [if_neg h]
    split_ifs with h1
    · rw [if_pos h1] at t; simp [h] at t
    · rfl

theorem eacc_apply (arg1 : Memref sig .tc .vmem S256x3584 .bf16) (harg1 : arg1.IsWhole) (x0 : Vec Ideal S256x3584 .bf16) (b : ℕ) (p l : Fin 128) :
    ∀ (n : ℕ) (h : b + n ≤ 28) (hn : n ≤ 16) (hl : l.val / 8 < n),
      eacc arg1 harg1 x0 b n h (ix2 p l) = tew (tl arg1 harg1 x0 (b + l.val / 8) (by omega)) (ix2 p ⟨16 * (l.val % 8), by omega⟩)
  | 0, _, _, hl => absurd hl (by omega)
  | n + 1, h, hn, hl => by
    show tsel (BitVec.ofNat 32 n) (tl arg1 harg1 x0 (b + n) (by omega)) (eacc arg1 harg1 x0 b n (by omega)) (ix2 p l) = _
    rw [tsel_apply n (by omega)]
    split_ifs with e
    · rw [tgat_apply]
      subst e
      rfl
    · exact eacc_apply arg1 harg1 x0 b p l n (by omega) (by omega) (by omega)

theorem shr_app (a b : ℕ) (ha : a ≤ 254) (hb : b ≤ 254) (k : ℕ) (hk : k < 2) :
    (IntOp.shrui .vector (BitVec.ofNat 16 (a * 128) ++ BitVec.ofNat 16 (b * 128)) 7#32).extractLsb' (16 * k) 16 = BitVec.ofNat 16 (if k = 0 then b else a) := by
  have e : IntOp.shrui .vector (BitVec.ofNat 16 (a * 128) ++ BitVec.ofNat 16 (b * 128)) 7#32 = BitVec.ofNat 32 (a * 65536 + b) := by
    rw [app_eq _ _ (by omega) (by omega)]
    have hs : ∀ w : BitVec 32, IntOp.shrui .vector w 7#32 = w >>> 7 := fun w => rfl
    rw [hs]
    apply BitVec.eq_of_toNat_eq
    rw [BitVec.toNat_ushiftRight, BitVec.toNat_ofNat, BitVec.toNat_ofNat, Nat.shiftRight_eq_div_pow]
    omega
  rw [e, ← app_eq _ _ (by omega) (by omega), half_app _ _ _ hk]
  split <;> rfl

theorem shr7_unfold (a : IVec S128x128 32) (i : S128x128.Idx) : shrui a (broadcast S128x128 7#32) i = IntOp.shrui .vector (a i) 7#32 := rfl

theorem txe_unfold (a : IVec S128x128 32) (i : S256x128.Idx) : txe a i
    = (Scalar.select (IntOp.cmpi .eq (bitcast S256x128 16 (shrui a (broadcast S128x128 7#32)) bitcasts_S128x128_w32_S256x128_w16 i) 0#16) 65533#16
        (IntOp.subi (bitcast S256x128 16 (shrui a (broadcast S128x128 7#32)) bitcasts_S128x128_w32_S256x128_w16 i) 129#16)).setWidth 8 := rfl

/-- The exponent byte of a block whose exponent field is `n`. -/
def ebyte (n : ℕ) : BitVec 8 := (Scalar.select (IntOp.cmpi .eq (BitVec.ofNat 16 n) 0#16) 65533#16 (IntOp.subi (BitVec.ofNat 16 n) 129#16)).setWidth 8

theorem ebyte_table : ∀ n : Fin 255, ebyte n.val = if n.val = 0 then (BitVec.ofInt 32 (0 - 3)).setWidth 8 else (BitVec.ofInt 32 ((n.val : ℤ) - 126 - 3)).setWidth 8 := by decide +kernel

theorem txe_apply (x : FVec Ideal S256x128 .bf16) (hx : Good x) (a : IVec S128x128 32) (r : Fin 256) (l : Fin 128) (l' : Fin 128)
    (h : a (ix2 ⟨r.val / 2, by omega⟩ l) = tew x (ix2 ⟨r.val / 2, by omega⟩ l')) : txe a (ix2 r l) = ebyte (tE x r l') := by
  rw [txe_unfold, bc16, shr7_unfold, h, tew_apply x hx, shr_app _ _ (tE_le _ _ _) (tE_le _ _ _) _ (by omega)]
  have e : (if r.val % 2 = 0 then tE x ⟨2 * (r.val / 2), by omega⟩ l' else tE x ⟨2 * (r.val / 2) + 1, by omega⟩ l') = tE x r l' := by
    split_ifs with h2
    · congr 1; apply Fin.ext; show 2 * (r.val / 2) = r.val; omega
    · congr 1; apply Fin.ext; show 2 * (r.val / 2) + 1 = r.val; omega
  dsimp only
  rw [e]
  rfl

theorem slice_at {α : Type} (x : S256x128.Idx → α) (h) (r : Fin 256) (l : Fin 96) : extractStridedSlice S256x96 ![0, 0] x h (ix2 r l) = x (ix2 r ⟨l.val, by omega⟩) := by
  unfold extractStridedSlice
  congr 1
  funext a; apply Fin.ext
  match a with
  | ⟨0, _⟩ => show 0 + r.val = r.val; omega
  | ⟨1, _⟩ => show 0 + l.val = l.val; omega

theorem XE_at (m : (ℓ : Loc nD τ sig) → Buf (Elt Ideal) ℓ) (c : Dev nD) (hg : ∀ b h, Good (tl (ms0_0 pt0) (hs0_0 pt0) (iblk m c 0 pt0) b h)) (r : Fin 256) (b : Fin 224) :
    XE m c (ix2 r b) = ebyte (tE (tl (ms0_0 pt0) (hs0_0 pt0) (iblk m c 0 pt0) (b.val / 8) (by omega)) r ⟨16 * (b.val % 8), by omega⟩) := by
  rw [XE_eq, ← View.read_writes_junk_eq_canon VO0_7]
  by_cases hb : b.val < 128
  · refine (View.read_writes_cons_unit_of_not_mem VO0_7 _ _ _ _ (ix2 r b) rfl 1 (Or.inl hb)).trans ?_
    refine (View.read_writes_cons_unit_of_mem VO0_7 _ _ _ _ (ix2 r b) (ix2 r ⟨b.val, hb⟩) rfl ?_).trans ?_
    · intro a
      match a with
      | ⟨0, _⟩ => show r.val = 0 + r.val; omega
      | ⟨1, _⟩ => show b.val = 0 + b.val; omega
    · have h := eacc_apply (ms0_0 pt0) (hs0_0 pt0) (iblk m c 0 pt0) 0 ⟨r.val / 2, by omega⟩ ⟨b.val, hb⟩ 16 (by omega) (by omega) (by show b.val / 8 < 16; omega)
      refine (txe_apply _ (hg _ _) _ r ⟨b.val, hb⟩ _ h).trans ?_
      congr 3
      show 0 + b.val / 8 = b.val / 8
      omega
  · refine (View.read_writes_cons_unit_of_mem VO0_7 _ _ _ _ (ix2 r b) (ix2 r ⟨b.val - 128, by omega⟩) rfl ?_).trans ?_
    · intro a
      match a with
      | ⟨0, _⟩ => show r.val = 0 + r.val; omega
      | ⟨1, _⟩ => show b.val = 128 + (b.val - 128); omega
    · refine (slice_at _ _ r ⟨b.val - 128, by omega⟩).trans ?_
      have h := eacc_apply (ms0_0 pt0) (hs0_0 pt0) (iblk m c 0 pt0) 16 ⟨r.val / 2, by omega⟩ ⟨b.val - 128, by omega⟩ 12 (by omega) (by omega) (by show (b.val - 128) / 8 < 12; omega)
      refine (txe_apply _ (hg _ _) _ r ⟨b.val - 128, by omega⟩ _ h).trans ?_
      congr 2
      · congr 1
        show 16 + (b.val - 128) / 8 = b.val / 8
        omega
      · apply Fin.ext
        show 16 * ((b.val - 128) % 8) = 16 * (b.val % 8)
        omega

end Cert.KernelIdeal.Run

end
-- ==== Proof.Nib.lean ====
module

public import proofs.«01_k».proof.Proof.Num

@[expose] public section

noncomputable section

namespace Msfp

/-- The four bits of a code: its magnitude, and 8 more when it is negative. -/
def cnib (c : ℤ) : ℕ := c.natAbs + if c < 0 then 8 else 0

theorem cnib_lt (c : ℤ) (h1 : -7 ≤ c) (h2 : c ≤ 7) : cnib c < 16 := by
  unfold cnib
  split_ifs <;> omega

end Msfp

end
-- ==== Proof.KI.Packs.lean ====
module

public import proofs.«01_k».proof.Proof.KI.Codes
public import proofs.«01_k».proof.Proof.KI.Reads
public import proofs.«01_k».proof.Proof.KI.Value
public import proofs.«01_k».proof.Proof.Nib

@[expose] public section

set_option maxRecDepth 16384

noncomputable section

namespace Cert.KernelIdeal.Run

open Idealize.ShloMosaic Idealize.ShloMosaic.TcCoe
open Cert.KernelIdeal Cert.KernelIdeal.Gen
open Msfp

/-! The packed codes. -/

theorem ofBits_eight : Ideal.ofBits .bf16 (0x4100#16) = ((p2 3 : ℝ) : EReal) := ofBits_bf 130 (by decide) (by decide)
theorem ofBits_128 : Ideal.ofBits .bf16 (0x4300#16) = ((p2 7 : ℝ) : EReal) := ofBits_bf 134 (by decide) (by decide)

theorem tnib_unfold (x : FVec Ideal S256x128 .bf16) (i : S256x128.Idx) :
    tnib x i = Ideal.fptosi 32 ((Scalar.select (Ideal.cmp .olt (tcode x i) (Ideal.ofBits .bf16 0x0000#16)) (max (tcode x i : EReal) (-(tcode x i : EReal)) + Ideal.ofBits .bf16 0x4100#16) (max (tcode x i : EReal) (-(tcode x i : EReal))) : EReal) + Ideal.ofBits .bf16 0x4300#16) := rfl

theorem nib_value (c : ℤ) : ((Scalar.select (Ideal.cmp .olt ((c : ℝ) : EReal) 0) (max ((c : ℝ) : EReal) (-((c : ℝ) : EReal)) + ((p2 3 : ℝ) : EReal)) (max ((c : ℝ) : EReal) (-((c : ℝ) : EReal))) : EReal) + ((p2 7 : ℝ) : EReal))
    = ((((cnib c : ℤ) + 128 : ℤ) : ℝ) : EReal) := by
  have e3 : p2 3 = 8 := by unfold p2; norm_num
  have e7 : p2 7 = 128 := by unfold p2; norm_num
  rw [e3, e7]
  by_cases h : c < 0
  · have hc : (((c : ℝ) : EReal) < 0) := by rw [← EReal.coe_zero, EReal.coe_lt_coe_iff]; exact_mod_cast h
    have hm : max ((c : ℝ) : EReal) (-((c : ℝ) : EReal)) = ((-(c : ℝ) : ℝ) : EReal) := by
      rw [EReal.coe_neg]
      refine max_eq_right ?_
      rw [← EReal.coe_neg, EReal.coe_le_coe_iff]
      have : (c : ℝ) < 0 := by exact_mod_cast h
      linarith
    have hs : ∀ a b : EReal, Scalar.select (Ideal.cmp .olt ((c : ℝ) : EReal) 0) a b = a := fun a b => by simp only [Ideal.cmp, hc, decide_true]; rfl
    rw [hs, hm, ← EReal.coe_add, ← EReal.coe_add]
    congr 1
    have hn : (cnib c : ℤ) = -c + 8 := by unfold cnib; rw [if_pos h]; omega
    rw [hn]
    push_cast
    ring
  · have hc : ¬ (((c : ℝ) : EReal) < 0) := by rw [← EReal.coe_zero, EReal.coe_lt_coe_iff]; exact_mod_cast h
    have hm : max ((c : ℝ) : EReal) (-((c : ℝ) : EReal)) = ((c : ℝ) : EReal) := by
      refine max_eq_left ?_
      rw [← EReal.coe_neg, EReal.coe_le_coe_iff]
      have : (0 : ℝ) ≤ (c : ℝ) := by exact_mod_cast (not_lt.1 h)
      linarith
    have hs : ∀ a b : EReal, Scalar.select (Ideal.cmp .olt ((c : ℝ) : EReal) 0) a b = b := fun a b => by simp only [Ideal.cmp, hc, decide_false]; rfl
    rw [hs, hm, ← EReal.coe_add]
    congr 1
    have hn : (cnib c : ℤ) = c := by unfold cnib; rw [if_neg h]; omega
    rw [hn]
    push_cast
    ring

theorem tC_bounds (x : FVec Ideal S256x128 .bf16) (r : Fin 256) (l : Fin 128) : -7 ≤ tC x r l ∧ tC x r l ≤ 7 := ⟨code_ge _, code_le _⟩

/-- The four bits of a lane's code. -/
def tN (x : FVec Ideal S256x128 .bf16) (r : Fin 256) (l : Fin 128) : ℕ := cnib (tC x r l)

theorem tN_lt (x : FVec Ideal S256x128 .bf16) (r : Fin 256) (l : Fin 128) : tN x r l < 16 := cnib_lt _ (tC_bounds x r l).1 (tC_bounds x r l).2

theorem tnib_apply (x : FVec Ideal S256x128 .bf16) (hx : Good x) (r : Fin 256) (l : Fin 128) : tnib x (ix2 r l) = BitVec.ofNat 32 (tN x r l + 128) := by
  have hN := tN_lt x r l
  rw [tnib_unfold, tcode_apply x hx, ofBits_bf_zero, ofBits_eight, ofBits_128, nib_value]
  refine (fptosi_int _ (by unfold tN at hN; omega) (by unfold tN at hN; omega)).trans ?_
  rfl

theorem trunc_table : ∀ n : Fin 16, (BitVec.ofNat 32 (n.val + 128)).setWidth 16 = BitVec.ofNat 16 (n.val + 128) := by decide +kernel

theorem and_app (a b : ℕ) (ha : a < 16) (hb : b < 16) :
    IntOp.andi (BitVec.ofNat 16 (a + 128) ++ BitVec.ofNat 16 (b + 128)) 983055#32 = BitVec.ofNat 32 (a * 65536 + b) := by
  have t : ∀ a b : Fin 16, IntOp.andi (BitVec.ofNat 16 (a.val + 128) ++ BitVec.ofNat 16 (b.val + 128)) 983055#32 = BitVec.ofNat 32 (a.val * 65536 + b.val) := by decide +kernel
  exact t ⟨a, ha⟩ ⟨b, hb⟩

theorem tnw_unfold (x : FVec Ideal S256x128 .bf16) (i : S128x128.Idx) :
    tnw x i = IntOp.andi (bitcast S128x128 32 (trunci 16 (tnib x) natLt_16_32) bitcasts_S256x128_w16_S128x128_w32 i) 983055#32 := rfl
theorem trunc16_at (v : IVec S256x128 32) (i : S256x128.Idx) : trunci 16 v natLt_16_32 i = (v i).setWidth 16 := rfl

theorem tnw_apply (x : FVec Ideal S256x128 .bf16) (hx : Good x) (p l : Fin 128) :
    tnw x (ix2 p l) = BitVec.ofNat 32 (tN x ⟨2 * p.val + 1, by omega⟩ l * 65536 + tN x ⟨2 * p.val, by omega⟩ l) := by
  have key : ∀ R : Fin 256, trunci 16 (tnib x) natLt_16_32 (ix2 R l) = BitVec.ofNat 16 (tN x R l + 128) := fun R => by
    rw [trunc16_at, tnib_apply x hx]
    exact trunc_table ⟨tN x R l, tN_lt x R l⟩
  rw [tnw_unfold, bc32, key, key]
  exact and_app _ _ (tN_lt _ _ _) (tN_lt _ _ _)

theorem or_table : ∀ l : Fin 128, (wr (IntOp.ori (BitVec.ofNat 32 l.val) 1#32)).toNat % 128 = l.val / 2 * 2 + 1 := by decide +kernel
theorem twice_table : ∀ l : Fin 128, (wr (IntOp.andi (IntOp.muli (BitVec.ofNat 32 l.val) 2#32) 127#32)).toNat % 128 = 2 * l.val % 128 := by decide +kernel

theorem twice_unfold (p l : Fin 128) : andi (muli laneB (broadcast S128x128 2#32)) (broadcast S128x128 127#32) (ix2 p l) = IntOp.andi (IntOp.muli (laneB (ix2 p l)) 2#32) 127#32 := rfl
theorem odd_unfold (p l : Fin 128) : ori laneB (broadcast S128x128 1#32) (ix2 p l) = IntOp.ori (laneB (ix2 p l)) 1#32 := rfl
theorem pair_unfold (a b : IVec S128x128 32) (i : S128x128.Idx) : ori a (shli b (broadcast S128x128 4#32)) i = IntOp.ori (a i) (IntOp.shli .vector (b i) 4#32) := rfl

theorem pair_table : ∀ a b : Fin 16, ∀ c d : Fin 16, IntOp.ori (BitVec.ofNat 32 (a.val * 65536 + b.val)) (IntOp.shli .vector (BitVec.ofNat 32 (c.val * 65536 + d.val)) 4#32)
    = BitVec.ofNat 32 ((a.val + 16 * c.val) * 65536 + (b.val + 16 * d.val)) := by decide +kernel

theorem tpk_apply (x : FVec Ideal S256x128 .bf16) (hx : Good x) (p l : Fin 128) :
    tpk x (ix2 p l) = BitVec.ofNat 16 (tN x ⟨2 * p.val + 1, by omega⟩ ⟨2 * l.val % 128, by omega⟩ + 16 * tN x ⟨2 * p.val + 1, by omega⟩ ⟨2 * l.val % 128 + 1, by omega⟩)
      ++ BitVec.ofNat 16 (tN x ⟨2 * p.val, by omega⟩ ⟨2 * l.val % 128, by omega⟩ + 16 * tN x ⟨2 * p.val, by omega⟩ ⟨2 * l.val % 128 + 1, by omega⟩) := by
  have b := fun R L => tN_lt x R L
  unfold tpk
  rw [gatherB, wrapB_apply, twice_unfold, laneB_apply]
  have e1 : (⟨(wr (IntOp.andi (IntOp.muli (BitVec.ofNat 32 l.val) 2#32) 127#32)).toNat % 128, Nat.mod_lt _ (by decide)⟩ : Fin 128) = ⟨2 * l.val % 128, by omega⟩ := Fin.ext (twice_table l)
  rw [e1, pair_unfold, gatherB, wrapB_apply, odd_unfold, laneB_apply]
  have e2 : (⟨(wr (IntOp.ori (BitVec.ofNat 32 (2 * l.val % 128)) 1#32)).toNat % 128, Nat.mod_lt _ (by decide)⟩ : Fin 128) = ⟨2 * l.val % 128 + 1, by omega⟩ :=
    Fin.ext ((or_table ⟨2 * l.val % 128, by omega⟩).trans (by show 2 * l.val % 128 / 2 * 2 + 1 = 2 * l.val % 128 + 1; omega))
  dsimp only
  rw [e2, tnw_apply x hx, tnw_apply x hx]
  refine (pair_table ⟨_, b _ _⟩ ⟨_, b _ _⟩ ⟨_, b _ _⟩ ⟨_, b _ _⟩).trans ?_
  dsimp only
  have b1 := b ⟨2 * p.val + 1, by omega⟩ ⟨2 * l.val % 128, by omega⟩
  have b2 := b ⟨2 * p.val + 1, by omega⟩ ⟨2 * l.val % 128 + 1, by omega⟩
  have b3 := b ⟨2 * p.val, by omega⟩ ⟨2 * l.val % 128, by omega⟩
  have b4 := b ⟨2 * p.val, by omega⟩ ⟨2 * l.val % 128 + 1, by omega⟩
  rw [app_eq _ _ (by omega) (by omega)]

/-- A byte of two codes. -/
def pbyte (a b : ℕ) : BitVec 8 := (BitVec.ofNat 16 (a + 16 * b)).setWidth 8

theorem txp_unfold (x y : FVec Ideal S256x128 .bf16) (i : S256x128.Idx) :
    txp x y i = (bitcast S256x128 16 (select (cmpi .slt laneB (broadcast S128x128 64#32)) (tpk x) (tpk y)) bitcasts_S128x128_w32_S256x128_w16 i).setWidth 8 := rfl
theorem sel_unfold (a b : IVec S128x128 32) (i : S128x128.Idx) :
    select (cmpi .slt laneB (broadcast S128x128 64#32)) a b i = Scalar.select (IntOp.cmpi .slt (laneB i) 64#32) (a i) (b i) := rfl
theorem lt_table : ∀ l : Fin 128, IntOp.cmpi .slt (BitVec.ofNat 32 l.val) 64#32 = if l.val < 64 then 1#1 else 0#1 := by decide +kernel

theorem half_tpk (x : FVec Ideal S256x128 .bf16) (hx : Good x) (r : Fin 256) (l : Fin 128) :
    (tpk x (ix2 ⟨r.val / 2, by omega⟩ l)).extractLsb' (16 * (r.val % 2)) 16 = BitVec.ofNat 16 (tN x r ⟨2 * l.val % 128, by omega⟩ + 16 * tN x r ⟨2 * l.val % 128 + 1, by omega⟩) := by
  rw [tpk_apply x hx, half_app _ _ _ (by omega)]
  split_ifs with h
  · rw [show (⟨2 * (r.val / 2), by omega⟩ : Fin 256) = r from Fin.ext (by show 2 * (r.val / 2) = r.val; omega)]
  · rw [show (⟨2 * (r.val / 2) + 1, by omega⟩ : Fin 256) = r from Fin.ext (by show 2 * (r.val / 2) + 1 = r.val; omega)]

theorem txp_apply (x y : FVec Ideal S256x128 .bf16) (hx : Good x) (hy : Good y) (r : Fin 256) (l : Fin 128) :
    txp x y (ix2 r l) = if l.val < 64 then pbyte (tN x r ⟨2 * l.val % 128, by omega⟩) (tN x r ⟨2 * l.val % 128 + 1, by omega⟩)
      else pbyte (tN y r ⟨2 * l.val % 128, by omega⟩) (tN y r ⟨2 * l.val % 128 + 1, by omega⟩) := by
  rw [txp_unfold, bc16, sel_unfold, laneB_apply, lt_table]
  unfold Scalar.select
  by_cases h : l.val < 64
  · rw [if_pos h, if_pos h, if_pos (by decide), half_tpk x hx]; rfl
  · rw [if_neg h, if_neg h, if_neg (by decide), half_tpk y hy]; rfl

theorem XP_at (m : (ℓ : Loc nD τ sig) → Buf (Elt Ideal) ℓ) (c : Dev nD) (hg : ∀ b h, Good (tl (ms0_0 pt0) (hs0_0 pt0) (iblk m c 0 pt0) b h)) (r : Fin 256) (j : Fin 1792) :
    XP m c (ix2 r j) = pbyte (tN (tl (ms0_0 pt0) (hs0_0 pt0) (iblk m c 0 pt0) (j.val / 64) (by omega)) r ⟨2 * j.val % 128, by omega⟩)
      (tN (tl (ms0_0 pt0) (hs0_0 pt0) (iblk m c 0 pt0) (j.val / 64) (by omega)) r ⟨2 * j.val % 128 + 1, by omega⟩) := by
  rw [XP_eq, ← View.read_writes_junk_eq_canon VO0_6]
  unfold xpPieces
  refine (View.read_tilePieces VO0_6 _ _ _ _ _ 14 _ (ix2 r j) ⟨j.val / 128, by omega⟩ (by show j.val / 128 < 14; omega) (ix2 r ⟨j.val % 128, by omega⟩) ?_ 1 ?_).trans ?_
  · intro a
    match a with
    | ⟨0, _⟩ => show r.val = 0 + r.val; omega
    | ⟨1, _⟩ => show j.val = 128 * (j.val / 128) + j.val % 128; omega
  · intro i' hi'
    have : i'.val ≠ j.val / 128 := fun h => hi' (Fin.ext h)
    show j.val < 128 * i'.val ∨ 128 * i'.val + 128 ≤ j.val
    omega
  · refine (txp_apply _ _ (hg _ _) (hg _ _) r ⟨j.val % 128, by omega⟩).trans ?_
    have key : ∀ (b b' : ℕ) (h : b < 28) (h' : b' < 28) (u u' w w' : Fin 128), b = b' → u = u' → w = w' →
        pbyte (tN (tl (ms0_0 pt0) (hs0_0 pt0) (iblk m c 0 pt0) b h) r u) (tN (tl (ms0_0 pt0) (hs0_0 pt0) (iblk m c 0 pt0) b h) r w)
          = pbyte (tN (tl (ms0_0 pt0) (hs0_0 pt0) (iblk m c 0 pt0) b' h') r u') (tN (tl (ms0_0 pt0) (hs0_0 pt0) (iblk m c 0 pt0) b' h') r w') := by
      intro b b' h h' u u' w w' e1 e2 e3
      subst e1 e2 e3
      rfl
    split_ifs with h
    · exact key _ _ _ _ _ _ _ _ (by have h : j.val % 128 < 64 := h; show 2 * (j.val / 128) = j.val / 64; omega) (Fin.ext (by show 2 * (j.val % 128) % 128 = 2 * j.val % 128; omega)) (Fin.ext (by show 2 * (j.val % 128) % 128 + 1 = 2 * j.val % 128 + 1; omega))
    · exact key _ _ _ _ _ _ _ _ (by have h : ¬ j.val % 128 < 64 := h; show 2 * (j.val / 128) + 1 = j.val / 64; omega) (Fin.ext (by show 2 * (j.val % 128) % 128 = 2 * j.val % 128; omega)) (Fin.ext (by show 2 * (j.val % 128) % 128 + 1 = 2 * j.val % 128 + 1; omega))

end Cert.KernelIdeal.Run

end
-- ==== Proof.RI.Bytes.lean ====
module

public import proofs.«01_k».proof.Proof.RI.Acts
public import proofs.«01_k».proof.Proof.Nib

@[expose] public section

set_option maxRecDepth 16384

noncomputable section

namespace Cert.ReferenceIdeal.Read

open Idealize.ShloMosaic Idealize.ShloMosaic.TcCoe
open Cert.ReferenceIdeal Cert.ReferenceIdeal.Gen
open Msfp

/-! The reference's packed codes and its exponent bytes. -/

theorem idx174 (r : Fin 256) (b : Fin 224) : idx_main_v174 (ix2 r b) = ix3 0 r b := by
  funext a; apply Fin.ext
  match a with
  | ⟨0, _⟩ => rfl
  | ⟨1, _⟩ => show (r.val * 224 + b.val) / 224 % 256 = r.val; omega
  | ⟨2, _⟩ => show (r.val * 224 + b.val) % 224 = b.val; omega

theorem v174_at (x0 : X0) (r : Fin 256) (b : Fin 224) : val_main_v174 (F := Ideal) x0 (ix2 r b) = (BitVec.ofInt 32 (eI x0 r b - 3)).setWidth 8 := by
  rw [val_main_v174_apply, idx174, val_main_v171_apply, v39_at]

theorem nib_table : ∀ n : Fin 15, IntOp.addi (IntOp.absi (BitVec.ofInt 32 ((n.val : ℤ) - 7))) (IntOp.muli 8#32 ((IntOp.cmpi .slt (BitVec.ofInt 32 ((n.val : ℤ) - 7)) 0#32).setWidth 32))
    = BitVec.ofNat 32 (cnib ((n.val : ℤ) - 7)) := by decide +kernel

theorem nib_at (c : ℤ) (h1 : -7 ≤ c) (h2 : c ≤ 7) : IntOp.addi (IntOp.absi (BitVec.ofInt 32 c)) (IntOp.muli 8#32 ((IntOp.cmpi .slt (BitVec.ofInt 32 c) 0#32).setWidth 32))
    = BitVec.ofNat 32 (cnib c) := by
  have h := nib_table ⟨(c + 7).toNat, by omega⟩
  dsimp only at h
  rwa [show (((c + 7).toNat : ℕ) : ℤ) - 7 = c by omega] at h

/-- The four bits of an activation's code. -/
def rN (x0 : X0) (r : Fin 256) (k : Fin 3584) : ℕ := cnib (rC x0 r ⟨k.val / 16, by omega⟩ ⟨k.val % 16, by omega⟩)

theorem rN_lt (x0 : X0) (r : Fin 256) (k : Fin 3584) : rN x0 r k < 16 := cnib_lt _ (code_ge _) (code_le _)

theorem v46_at (x0 : X0) (hx : Fin0 x0) (r : Fin 256) (k : Fin 3584) :
    val_main_v46 (F := Ideal) x0 (ix4 0 r ⟨k.val / 16, by omega⟩ ⟨k.val % 16, by omega⟩) = BitVec.ofNat 32 (rN x0 r k) := by
  rw [val_main_v46_apply, val_main_v40_apply, val_main_v45_apply, val_main_v44_apply, val_main_c_11_apply, val_main_v43_apply, val_main_v42_apply, val_main_v41_apply, val_main_c_10_apply,
    v36_at x0 hx]
  exact nib_at _ (code_ge _) (code_le _)

theorem idx47 (r : Fin 256) (j : Fin 1792) (s : Fin 2) :
    idx_main_v47 (ix4 0 r j s) = ix4 0 r ⟨(2 * j.val + s.val) / 16, by omega⟩ ⟨(2 * j.val + s.val) % 16, by omega⟩ := by
  funext a; apply Fin.ext
  match a with
  | ⟨0, _⟩ => rfl
  | ⟨1, _⟩ => show (((0 * 256 + r.val) * 1792 + j.val) * 2 + s.val) / 3584 % 256 = r.val; omega
  | ⟨2, _⟩ => show (((0 * 256 + r.val) * 1792 + j.val) * 2 + s.val) / 16 % 224 = (2 * j.val + s.val) / 16; omega
  | ⟨3, _⟩ => show (((0 * 256 + r.val) * 1792 + j.val) * 2 + s.val) % 16 = (2 * j.val + s.val) % 16; omega

theorem v47_at (x0 : X0) (hx : Fin0 x0) (r : Fin 256) (j : Fin 1792) (s : Fin 2) :
    val_main_v47 (F := Ideal) x0 (ix4 0 r j s) = BitVec.ofNat 32 (rN x0 r ⟨2 * j.val + s.val, by omega⟩) := by
  rw [val_main_v47_apply, idx47]
  exact v46_at x0 hx r ⟨2 * j.val + s.val, by omega⟩

theorem idx49 (r : Fin 256) (j : Fin 1792) : idx_main_v48 (idx_main_v49 (ix3 0 r j)) = ix4 0 r j 0 := by
  funext a; apply Fin.ext
  match a with
  | ⟨0, _⟩ => rfl
  | ⟨1, _⟩ => show ((0 * 256 + r.val) * 1792 + j.val) / 1792 % 256 = r.val; omega
  | ⟨2, _⟩ => show ((0 * 256 + r.val) * 1792 + j.val) / 1 % 1792 = j.val; omega
  | ⟨3, _⟩ => rfl

theorem idx51 (r : Fin 256) (j : Fin 1792) : idx_main_v50 (idx_main_v51 (ix3 0 r j)) = ix4 0 r j 1 := by
  funext a; apply Fin.ext
  match a with
  | ⟨0, _⟩ => rfl
  | ⟨1, _⟩ => show ((0 * 256 + r.val) * 1792 + j.val) / 1792 % 256 = r.val; omega
  | ⟨2, _⟩ => show ((0 * 256 + r.val) * 1792 + j.val) / 1 % 1792 = j.val; omega
  | ⟨3, _⟩ => rfl

theorem idx173 (r : Fin 256) (j : Fin 1792) : idx_main_v173 (ix2 r j) = ix3 0 r j := by
  funext a; apply Fin.ext
  match a with
  | ⟨0, _⟩ => rfl
  | ⟨1, _⟩ => show (r.val * 1792 + j.val) / 1792 % 256 = r.val; omega
  | ⟨2, _⟩ => show (r.val * 1792 + j.val) % 1792 = j.val; omega

theorem byte_table : ∀ a b : Fin 16, (IntOp.ori (BitVec.ofNat 32 a.val) (IntOp.shli .host (BitVec.ofNat 32 b.val) 4#32)).setWidth 8 = (BitVec.ofNat 16 (a.val + 16 * b.val)).setWidth 8 := by decide +kernel

theorem v173_at (x0 : X0) (hx : Fin0 x0) (r : Fin 256) (j : Fin 1792) :
    val_main_v173 (F := Ideal) x0 (ix2 r j) = (BitVec.ofNat 16 (rN x0 r ⟨2 * j.val, by omega⟩ + 16 * rN x0 r ⟨2 * j.val + 1, by omega⟩)).setWidth 8 := by
  rw [val_main_v173_apply, idx173, val_main_v55_apply, val_main_v54_apply, val_main_v49_apply, val_main_v48_apply, idx49, val_main_v53_apply, val_main_v51_apply, val_main_v50_apply, idx51,
    val_main_v52_apply, val_main_c_12_apply, v47_at x0 hx, v47_at x0 hx]
  exact byte_table ⟨_, rN_lt x0 r ⟨2 * j.val, by omega⟩⟩ ⟨_, rN_lt x0 r ⟨2 * j.val + 1, by omega⟩⟩

end Cert.ReferenceIdeal.Read

end
-- ==== Proof.Eq.Bytes.lean ====
module

public import proofs.«01_k».proof.Proof.Eq.Y
public import proofs.«01_k».proof.Proof.KI.ExpoBytes
public import proofs.«01_k».proof.Proof.KI.Packs
public import proofs.«01_k».proof.Proof.RI.Bytes

@[expose] public section

set_option maxRecDepth 16384

noncomputable section

namespace Cert.KernelIdeal.Run

open Idealize.ShloMosaic Idealize.ShloMosaic.TcCoe
open Cert.KernelIdeal Cert.KernelIdeal.Gen
open Cert.ReferenceIdeal.Read (X0 rA mag lane eI rC rN v173_at v174_at)
open Msfp

variable (m : (ℓ : Loc nD τ sig) → Buf (Elt Ideal) ℓ) (c : Dev nD)
variable (hp : Range m c)

include hp

/-! The packed codes and the exponent bytes against the reference's. -/

theorem ebyte_eq (n : ℕ) (e : ℤ) (h : (2 ≤ n ∧ e = (n : ℤ) - 126) ∨ (n = 0 ∧ e = 0)) (hn : n ≤ 254) : ebyte n = (BitVec.ofInt 32 (e - 3)).setWidth 8 := by
  have t := ebyte_table ⟨n, by omega⟩
  dsimp only at t
  rw [t]
  rcases h with ⟨h1, h2⟩ | ⟨h1, h2⟩
  · rw [if_neg (by omega), h2]
  · rw [if_pos h1, h2]

/-- The third result. -/
theorem XE_same (r : Fin 256) (b : Fin 224) : XE m c (ix2 r b) = Cert.ReferenceIdeal.Read.val_main_v174 (F := Ideal) (A0 m c) (ix2 r b) := by
  have hb : b.val / 8 < 28 := by omega
  rw [v174_at, XE_at m c (tile_good m c hp)]
  have h := tile_cases m c hp (b.val / 8) hb r ⟨16 * (b.val % 8), by omega⟩
  have e : (⟨8 * (b.val / 8) + (16 * (b.val % 8)) / 16, by omega⟩ : Fin 224) = b := Fin.ext (by show 8 * (b.val / 8) + (16 * (b.val % 8)) / 16 = b.val; omega)
  dsimp only at h
  rw [e] at h
  refine ebyte_eq m c hp _ _ ?_ (tE_le _ _ _)
  rcases h with ⟨h1, h2⟩ | ⟨h1, h2, h3⟩
  · exact Or.inl ⟨h1, h2⟩
  · exact Or.inr ⟨h1, h2⟩

theorem tN_same (b : ℕ) (h : b < 28) (r : Fin 256) (l : Fin 128) (k : Fin 3584) (hk : k.val = 128 * b + l.val) : tN (tile m c b h) r l = rN (A0 m c) r k := by
  unfold tN rN
  rw [tile_tC m c hp]
  have e1 : (⟨8 * b + l.val / 16, by omega⟩ : Fin 224) = ⟨k.val / 16, by omega⟩ := Fin.ext (by show 8 * b + l.val / 16 = k.val / 16; omega)
  have e2 : (⟨l.val % 16, by omega⟩ : Fin 16) = ⟨k.val % 16, by omega⟩ := Fin.ext (by show l.val % 16 = k.val % 16; omega)
  rw [e1, e2]

/-- The second result. -/
theorem XP_same (r : Fin 256) (j : Fin 1792) : XP m c (ix2 r j) = Cert.ReferenceIdeal.Read.val_main_v173 (F := Ideal) (A0 m c) (ix2 r j) := by
  have hb : j.val / 64 < 28 := by omega
  rw [v173_at _ (range_fin m c hp), XP_at m c (tile_good m c hp)]
  have h1 := tN_same m c hp (j.val / 64) hb r ⟨2 * j.val % 128, by omega⟩ ⟨2 * j.val, by omega⟩ (by show 2 * j.val = 128 * (j.val / 64) + 2 * j.val % 128; omega)
  have h2 := tN_same m c hp (j.val / 64) hb r ⟨2 * j.val % 128 + 1, by omega⟩ ⟨2 * j.val + 1, by omega⟩ (by show 2 * j.val + 1 = 128 * (j.val / 64) + (2 * j.val % 128 + 1); omega)
  rw [← h1, ← h2]
  rfl

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_normal_range
public import proofs.«01_k».proof.Proof.Gen.ReferenceIdeal.Run
public import proofs.«01_k».proof.Proof.Gen.ReferenceIdeal.Read
public import proofs.«01_k».proof.Proof.K.Frame
public import proofs.«01_k».proof.Proof.KI.Frame
public import proofs.«01_k».proof.Proof.Eq.Y
public import proofs.«01_k».proof.Proof.Eq.Bytes
public import Idealize.ShloMosaic.Adequacy
public import Idealize.ShloMosaic.Init

@[expose] public section

noncomputable section

namespace Cert.Proof

open Idealize.ShloMosaic Idealize.SL.Sem

theorem frame_p : Cert.quiescent_Kernel := fun m g _ => Cert.Kernel.Run.frame m g

theorem frame_pi : Cert.quiescent_KernelIdeal := fun m g _ => Cert.KernelIdeal.Run.frame m g

theorem frame_pi_pre : Cert.quiescent_KernelIdeal_pre_normal_range := fun m g _ => Cert.KernelIdeal.Run.frame m g

/-- The reference declares no semaphore, so that its counters are at zero says nothing more. -/
theorem frame_ri : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run m g)

theorem frame_ri_pre : Cert.quiescent_ReferenceIdeal_pre_normal_range := fun m g _ => frame_ri m g trivial

open Cert.ReferenceIdeal.Read in
/-- The three results of the kernel are the three results of the reference. -/
theorem algebraic : Cert.algebraic_KernelIdeal_ReferenceIdeal_pre_normal_range := by
  intro m g m' g' hpre hag
  refine ⟨fun c => Cert.KernelIdeal.Run.G5 m c, fun c => Cert.KernelIdeal.Run.XP m c, fun c => Cert.KernelIdeal.Run.XE m c,
    Cert.KernelIdeal.Run.run m g,
    (θ_run Cert.ReferenceIdeal.defs _ _).mono (fun r h c => ?_) (Cert.ReferenceIdeal.Value.run m' g')⟩
  obtain ⟨a0, a1, a2, a3, a4⟩ := hag c
  obtain ⟨hp, he1, he2⟩ := pre_unpack _ _ _ _ _ (hpre c)
  refine ⟨(h c).1.trans ((val_main_v172_eq _).trans ?_), (h c).2.1.trans ((val_main_v173_eq _).trans ?_),
    (h c).2.2.1.trans ((val_main_v174_eq _).trans ?_), (h c).2.2.2⟩
  · refine Eq.trans (b := val_main_v172 (F := Ideal) (m' ((c.tc : Thread _ _).loc Cert.ReferenceIdeal.main_arg0)) (m' ((c.tc : Thread _ _).loc Cert.ReferenceIdeal.main_arg1))
      (m' ((c.tc : Thread _ _).loc Cert.ReferenceIdeal.main_arg2)) (m' ((c.tc : Thread _ _).loc Cert.ReferenceIdeal.main_arg3)) (m' ((c.tc : Thread _ _).loc Cert.ReferenceIdeal.main_arg4))) rfl ?_
    rw [a0, a1, a2, a3, a4]
    funext i
    obtain ⟨r', n, rfl⟩ : ∃ r' n, i = ix2 r' n := ⟨i 0, i 1, eq_ix2 i⟩
    exact (Cert.KernelIdeal.Run.G5_at m c hp he1 he2 r' n).symm
  · refine Eq.trans (b := val_main_v173 (F := Ideal) (m' ((c.tc : Thread _ _).loc Cert.ReferenceIdeal.main_arg0))) rfl ?_
    rw [a0]
    funext i
    obtain ⟨r', n, rfl⟩ : ∃ r' n, i = ix2 r' n := ⟨i 0, i 1, eq_ix2 i⟩
    exact (Cert.KernelIdeal.Run.XP_same m c hp r' n).symm
  · refine Eq.trans (b := val_main_v174 (F := Ideal) (m' ((c.tc : Thread _ _).loc Cert.ReferenceIdeal.main_arg0))) rfl ?_
    rw [a0]
    funext i
    obtain ⟨r', n, rfl⟩ : ∃ r' n, i = ix2 r' n := ⟨i 0, i 1, eq_ix2 i⟩
    exact (Cert.KernelIdeal.Run.XE_same m c hp r' n).symm

theorem claim : Cert.Claim := ⟨Cert.Kernel.Gen.facts, Cert.KernelIdeal.Gen.facts, Cert.ReferenceIdeal.Gen.facts, Cert.Pre_normal_range.Gen.facts,
  frame_p, frame_pi, frame_pi_pre, frame_ri, frame_ri_pre, trivial, algebraic⟩

end Cert.Proof

end
